-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x4096x2816 : Shape := ⟨3, ![3, 4096, 2816]⟩
abbrev S16x256x2816 : Shape := ⟨3, ![16, 256, 2816]⟩
abbrev S16x2x22 : Shape := ⟨3, ![16, 2, 22]⟩
abbrev S_ : Shape := ⟨0, ![]⟩

class Facts : Prop where
  bitsLt_bf16_f32 : FTy.bits .bf16 < FTy.bits .f32
  bcast_S_S3x4096x2816 : S_.BroadcastsInDim S3x4096x2816 (![] : Fin 0 → Fin S3x4096x2816.rank)

variable [Facts]

def fn {F : FTy → Type} [FloatOps F] (main_arg0 : FVec F S3x4096x2816 .bf16) (main_arg1 : FVec F S16x256x2816 .fp8e4m3) (main_arg2 : FVec F S16x2x22 .f32) : IVec S3x4096x2816 1 :=
  let main_v0 : FVec F S3x4096x2816 .f32 := (extf .f32 · bitsLt_bf16_f32) main_arg0
  let main_v1 : FVec F S3x4096x2816 .f32 := Host.absf main_v0
  let main_cst : FVec F S_ .f32 := constant S_ .f32 0x7F7F0000#32
  let main_v2 : FVec F S3x4096x2816 .f32 := broadcastInDim S3x4096x2816 ![] bcast_S_S3x4096x2816 main_cst
  let main_v3 : IVec S3x4096x2816 1 := cmpf .ole main_v1 main_v2
  let main_cst_0 : FVec F S_ .f32 := constant S_ .f32 0x7F800000#32
  let main_v4 : FVec F S3x4096x2816 .f32 := broadcastInDim S3x4096x2816 ![] bcast_S_S3x4096x2816 main_cst_0
  let main_v5 : IVec S3x4096x2816 1 := cmpf .oeq main_v1 main_v4
  let main_v6 : IVec S3x4096x2816 1 := ori main_v3 main_v5
  main_v6
-- ==== Kernel.lean ====
abbrev S3x4096x2816 : Shape := ⟨3, ![3, 4096, 2816]⟩
abbrev S16x256x2816 : Shape := ⟨3, ![16, 256, 2816]⟩
abbrev S16x2x22 : Shape := ⟨3, ![16, 2, 22]⟩
abbrev S12288x2816 : Shape := ⟨2, ![12288, 2816]⟩
abbrev S32x22 : Shape := ⟨2, ![32, 22]⟩
abbrev S12288x16x256 : Shape := ⟨3, ![12288, 16, 256]⟩
abbrev S12288x22 : Shape := ⟨2, ![12288, 22]⟩
abbrev S512x2816 : Shape := ⟨2, ![512, 2816]⟩
abbrev S512x16x256 : Shape := ⟨3, ![512, 16, 256]⟩
abbrev S512x22 : Shape := ⟨2, ![512, 22]⟩
abbrev S1x1 : Shape := ⟨2, ![1, 1]⟩
abbrev S1x128x128 : Shape := ⟨3, ![1, 128, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S1x256x2816 : Shape := ⟨3, ![1, 256, 2816]⟩
abbrev S256x2816 : Shape := ⟨2, ![256, 2816]⟩
abbrev S512x256 : Shape := ⟨2, ![512, 256]⟩
abbrev S512x1x256 : Shape := ⟨3, ![512, 1, 256]⟩
abbrev S512x2x256 : Shape := ⟨3, ![512, 2, 256]⟩
abbrev S3x4096x16x256 : Shape := ⟨4, ![3, 4096, 16, 256]⟩
abbrev S3x4096x22 : Shape := ⟨3, ![3, 4096, 22]⟩

abbrev nBuf : Space → Nat
  | .hbm => 11
  | .vmem => 11
  | .smem => 1
  | _ => 0

abbrev bufTy : (tb : Table) → Fin (tcTables nBuf tb) → BufTy
  | .hbm, ⟨0, _⟩ => ⟨S3x4096x2816, .bf16⟩
  | .hbm, ⟨1, _⟩ => ⟨S16x256x2816, .fp8e4m3⟩
  | .hbm, ⟨2, _⟩ => ⟨S16x2x22, .f32⟩
  | .hbm, ⟨3, _⟩ => ⟨S12288x2816, .bf16⟩
  | .hbm, ⟨4, _⟩ => ⟨S32x22, .f32⟩
  | .hbm, ⟨5, _⟩ => ⟨S12288x16x256, .bf16⟩
  | .hbm, ⟨6, _⟩ => ⟨S12288x2816, .fp8e4m3⟩
  | .hbm, ⟨7, _⟩ => ⟨S12288x22, .f32⟩
  | .hbm, ⟨8, _⟩ => ⟨S3x4096x16x256, .bf16⟩
  | .hbm, ⟨9, _⟩ => ⟨S3x4096x2816, .fp8e4m3⟩
  | .hbm, ⟨10, _⟩ => ⟨S3x4096x22, .f32⟩
  | .local _ .vmem, ⟨0, _⟩ => ⟨S512x2816, .bf16⟩
  | .local _ .vmem, ⟨1, _⟩ => ⟨S512x2816, .bf16⟩
  | .local _ .vmem, ⟨2, _⟩ => ⟨S16x256x2816, .fp8e4m3⟩
  | .local _ .vmem, ⟨3, _⟩ => ⟨S512x16x256, .bf16⟩
  | .local _ .vmem, ⟨4, _⟩ => ⟨S512x16x256, .bf16⟩
  | .local _ .vmem, ⟨5, _⟩ => ⟨S512x2816, .fp8e4m3⟩
  | .local _ .vmem, ⟨6, _⟩ => ⟨S512x2816, .fp8e4m3⟩
  | .local _ .vmem, ⟨7, _⟩ => ⟨S512x22, .f32⟩
  | .local _ .vmem, ⟨8, _⟩ => ⟨S512x22, .f32⟩
  | .local _ .vmem, ⟨9, _⟩ => ⟨S16x256x2816, .bf16⟩
  | .local _ .vmem, ⟨10, _⟩ => ⟨S512x2816, .bf16⟩
  | .local _ .smem, ⟨0, _⟩ => ⟨S32x22, .f32⟩
  | _, _ => ⟨S3x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x22 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x4096x2816 : Shape := ⟨3, ![3, 4096, 2816]⟩
abbrev S16x256x2816 : Shape := ⟨3, ![16, 256, 2816]⟩
abbrev S16x2x22 : Shape := ⟨3, ![16, 2, 22]⟩
abbrev S3x4096x16x256 : Shape := ⟨4, ![3, 4096, 16, 256]⟩
abbrev S3x4096x22 : Shape := ⟨3, ![3, 4096, 22]⟩
abbrev S3x4096x22x128 : Shape := ⟨4, ![3, 4096, 22, 128]⟩
abbrev S3x4096x22x1 : Shape := ⟨4, ![3, 4096, 22, 1]⟩
abbrev S12288x2816 : Shape := ⟨2, ![12288, 2816]⟩
abbrev S16x2x128x22x128 : Shape := ⟨5, ![16, 2, 128, 22, 128]⟩
abbrev S16x2x1x22x1 : Shape := ⟨5, ![16, 2, 1, 22, 1]⟩
abbrev S4096x2816 : Shape := ⟨2, ![4096, 2816]⟩
abbrev S12288x4096 : Shape := ⟨2, ![12288, 4096]⟩

abbrev nBuf : Space → Nat
  | .hbm => 6
  | .vmem => 6
  | .smem => 0
  | _ => 0

abbrev bufTy : (tb : Table) → Fin (tcTables nBuf tb) → BufTy
  | .hbm, ⟨0, _⟩ => ⟨S3x4096x2816, .bf16⟩
  | .hbm, ⟨1, _⟩ => ⟨S16x256x2816, .fp8e4m3⟩
  | .hbm, ⟨2, _⟩ => ⟨S16x2x22, .f32⟩
  | .hbm, ⟨3, _⟩ => ⟨S3x4096x16x256, .bf16⟩
  | .hbm, ⟨4, _⟩ => ⟨S3x4096x2816, .fp8e4m3⟩
  | .hbm, ⟨5, _⟩ => ⟨S3x4096x22, .f32⟩
  | .local _ .vmem, ⟨0, _⟩ => ⟨S3x4096x2816, .bf16⟩
  | .local _ .vmem, ⟨1, _⟩ => ⟨S16x256x2816, .fp8e4m3⟩
  | .local _ .vmem, ⟨2, _⟩ => ⟨S16x2x22, .f32⟩
  | .local _ .vmem, ⟨3, _⟩ => ⟨S3x4096x16x256, .bf16⟩
  | .local _ .vmem, ⟨4, _⟩ => ⟨S3x4096x2816, .fp8e4m3⟩
  | .local _ .vmem, ⟨5, _⟩ => ⟨S3x4096x22, .f32⟩
  | _, _ => ⟨S3x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x4096x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x16x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x22 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.Kernel

@[expose] public section

noncomputable section

namespace Cert.Kernel.Body

open Idealize.ShloMosaic Idealize.SL.Sem Cert.Kernel.Gen

variable {F : FTy → Type} [FloatOps F]

/-- Programs of one core of this kernel. -/
abbrev P (α : Type) := Prog (TpuEff nD τ sig (Elt F) Λ₀ .tc) α

/-- The offsets of weight tile `n`: head, half and column group. -/
def woff (n : Nat) : Fin 3 → Nat := ![n / 44, n / 22 % 2 * 128, n % 22 * 128]

/-- The place of weight tile `n`'s scale. -/
def soff (n : Nat) : Fin 2 → Nat := ![n / 22, n % 22]

theorem inb_w (n : Nat) (h : n < 704) : ∀ a, woff n a + S1x128x128.size a ≤ S16x256x2816.size a := by
  intro a; fin_cases a <;> simp [woff] <;> omega

theorem inb_s (n : Nat) (h : n < 704) : ∀ a, soff n a + S1x1.size a ≤ S32x22.size a := by
  intro a; fin_cases a <;> simp [soff] <;> omega

theorem packed_w (n : Nat) (h : n < 704) :
    (Rect.unit (s := S16x256x2816) (woff n) S1x128x128.size (inb_w n h)).PackedRows (EltTy.packing .bf16) := by
  right
  refine ⟨by decide, rfl, .inl ⟨?_, ?_⟩⟩
  · show 2 ∣ n / 22 % 2 * 128
    omega
  · show 2 ∣ 128
    decide

/-- One dequantised weight tile: the codes times their scale, rounded to bf16. -/
def wtile (s : Elt F .f32) (v : Vec F S1x128x128 .fp8e4m3) : FVec F S1x128x128 .bf16 :=
  shapeCast S1x128x128
    (truncf .bf16
      (mulf (extf .f32 (shapeCast S128x128 v shapeCasts_S1x128x128_S128x128) bitsLt_fp8e4m3_f32)
        (broadcast S128x128 s)) bitsLt_bf16_f32)
    shapeCasts_S128x128_S1x128x128

/-- Weight tile `n` is read with its scale, dequantised and stored; then `k`. -/
def tile (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (n : Nat) (h : n < 704) (k : P (F := F) PUnit) : P (F := F) PUnit :=
  .op (.load arg3 (Rect.unit (s := S32x22) (soff n) S1x1.size (inb_s n h)).toLoadRect (View.loadsAt_rect (View.loads_smem_one rfl numel1_S1x1))) fun f =>
  .op (.load arg2 (Rect.unit (s := S16x256x2816) (woff n) S1x128x128.size (inb_w n h)).toLoadRect (View.loadsAt_vmem h_S1x128x128)) fun v =>
  .op (.load arg7 (Rect.unit (s := S16x256x2816) (woff n) S1x128x128.size (inb_w n h)).toLoadRect (View.loadsAt_vmem h_S1x128x128)) fun _ =>
  .op (.store arg7 (Rect.unit (s := S16x256x2816) (woff n) S1x128x128.size (inb_w n h)) (wtile (f (Shape.Idx.first (Eq.symm numel1_S1x1 ▸ Nat.one_pos))) v) Finset.univ (View.stores_vmem h_S1x128x128 (harg7.storeExact_slice rfl _ (packed_w n h)) (fun _ => rfl)) (.inl rfl)) fun _ => k

/-- The last `c` of the 704 weight tiles, in order; then `k`. -/
def tiles (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (k : P (F := F) PUnit) (c : Nat) : P (F := F) PUnit :=
  Nat.rec (motive := fun _ => P (F := F) PUnit) k (fun c ih => if h : 704 - (c + 1) < 704 then tile arg1 harg1 arg2 harg2 arg3 harg3 arg4 harg4 arg5 harg5 arg6 harg6 arg7 harg7 arg8 harg8 (704 - (c + 1)) h ih else ih) c

/-! ## The quantiser of one group -/

theorem inb_g (g : Nat) (h : g < 22) : ∀ a, (![0, g * 128] : Fin 2 → Nat) a + S512x128.size a ≤ S512x2816.size a := by
  intro a; fin_cases a <;> simp <;> omega

theorem inb_x (g : Nat) (h : g < 22) : ∀ a, (![0, g] : Fin 2 → Nat) a + S512x1.size a ≤ S512x22.size a := by
  intro a; fin_cases a <;> simp <;> omega

theorem packed_g8 (g : Nat) (h : g < 22) :
    (Rect.unit (s := S512x2816) ![0, g * 128] S512x128.size (inb_g g h)).PackedRows (EltTy.packing .fp8e4m3) :=
  .inr ⟨by decide, rfl, .inl ⟨by show 4 ∣ 0; decide, by show 4 ∣ 512; decide⟩⟩

theorem packed_g16 (g : Nat) (h : g < 22) :
    (Rect.unit (s := S512x2816) ![0, g * 128] S512x128.size (inb_g g h)).PackedRows (EltTy.packing .bf16) :=
  .inr ⟨by decide, rfl, .inl ⟨by show 2 ∣ 0; decide, by show 2 ∣ 512; decide⟩⟩

/-- One group's entries at f32. -/
def gx (x : Vec F S512x128 .bf16) : FVec F S512x128 .f32 :=
  extf .f32 (shapeCast S512x128 x shapeCasts_S512x128_S512x128) bitsLt_bf16_f32

/-- Each row's greatest magnitude over 448. -/
def gv (x : Vec F S512x128 .bf16) : FVec F S512x1 .f32 :=
  mulf (shapeCast S512x1 (multiReduction .maximumf [1] S512 (absf (gx x)) 0xFF800000#32 reduces_S512x128_S512 (.inl rfl) rfl) shapeCasts_S512_S512x1)
    (broadcast S512x1 (Scalar.ofBits .f32 0x3B124925#32 : F .f32))

/-- One step of the search for the exponent field: raise the candidate `e` by `k` if `v` reaches it. -/
def fstep (v : FVec F S512x1 .f32) (e : IVec S512x1 32) (k : BitVec 32) : IVec S512x1 32 :=
  select (cmpf .oge v (bitcastToFloat .f32 (shli (addi e (broadcast S512x1 k)) (broadcast S512x1 23#32))))
    (addi e (broadcast S512x1 k)) e

/-- The exponent field, found by its eight steps. -/
def field (v : FVec F S512x1 .f32) : IVec S512x1 32 :=
  fstep v (fstep v (fstep v (fstep v (fstep v (fstep v (fstep v (fstep v (broadcast S512x1 0#32)
    128#32) 64#32) 32#32) 16#32) 8#32) 4#32) 2#32) 1#32

/-- The exponent of the scale. -/
def expo (v : FVec F S512x1 .f32) : IVec S512x1 32 :=
  select (ori (cmpi .eq (field v) (broadcast S512x1 0#32)) (cmpi .eq (field v) (broadcast S512x1 255#32)))
    (broadcast S512x1 0#32) (subi (field v) (broadcast S512x1 126#32))

/-- The scale, one a row. -/
def gscale (x : Vec F S512x128 .bf16) : FVec F S512x1 .f32 :=
  bitcastToFloat .f32 (shli (addi (expo (gv x)) (broadcast S512x1 127#32)) (broadcast S512x1 23#32))

/-- Its inverse. -/
def ginv (x : Vec F S512x128 .bf16) : FVec F S512x1 .f32 :=
  bitcastToFloat .f32 (shli (subi (broadcast S512x1 127#32) (expo (gv x))) (broadcast S512x1 23#32))

/-- The codes of one group. -/
def gcodes (x : Vec F S512x128 .bf16) : FVec F S512x128 .fp8e4m3 :=
  truncf .fp8e4m3
    (minimumf (broadcast S512x128 (Scalar.ofBits .f32 0x43E00000#32 : F .f32))
      (maximumf (broadcast S512x128 (Scalar.ofBits .f32 0xC3E00000#32 : F .f32))
        (mulf (gx x) (broadcastTo S512x128 (ginv x) broadcasts_S512x1_S512x128)))) bitsLt_fp8e4m3_f32

/-- The codes times their scale, rounded to bf16. -/
def gxw (x : Vec F S512x128 .bf16) : FVec F S512x128 .bf16 :=
  shapeCast S512x128
    (truncf .bf16 (mulf (extf .f32 (gcodes x) bitsLt_fp8e4m3_f32) (broadcastTo S512x128 (gscale x) broadcasts_S512x1_S512x128)) bitsLt_bf16_f32)
    shapeCasts_S512x128_S512x128

/-- Group `g` is read, quantised, and its codes, scales and dequantised entries stored; then `k`. -/
def group (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (g : Nat) (h : g < 22) (k : P (F := F) PUnit) : P (F := F) PUnit :=
  .op (.load arg1 (Rect.unit (s := S512x2816) ![0, g * 128] S512x128.size (inb_g g h)).toLoadRect (View.loadsAt_vmem h_S512x128)) fun x =>
  .op (.load arg5 (Rect.unit (s := S512x2816) ![0, g * 128] S512x128.size (inb_g g h)).toLoadRect (View.loadsAt_vmem h_S512x128)) fun _ =>
  .op (.store arg5 (Rect.unit (s := S512x2816) ![0, g * 128] S512x128.size (inb_g g h)) (gcodes x) Finset.univ (View.stores_vmem h_S512x128 (harg5.storeExact_slice rfl _ (packed_g8 g h)) (fun _ => rfl)) (.inl rfl)) fun _ =>
  .op (.load arg6 (Rect.unit (s := S512x22) ![0, g] S512x1.size (inb_x g h)).toLoadRect (View.loadsAt_vmem h_S512x1)) fun _ =>
  .op (.store arg6 (Rect.unit (s := S512x22) ![0, g] S512x1.size (inb_x g h)) (gscale x) Finset.univ (View.stores_vmem_bits_univ h_S512x1 rfl) (.inl rfl)) fun _ =>
  .op (.load arg8 (Rect.unit (s := S512x2816) ![0, g * 128] S512x128.size (inb_g g h)).toLoadRect (View.loadsAt_vmem h_S512x128)) fun _ =>
  .op (.store arg8 (Rect.unit (s := S512x2816) ![0, g * 128] S512x128.size (inb_g g h)) (gxw x) Finset.univ (View.stores_vmem h_S512x128 (harg8.storeExact_slice rfl _ (packed_g16 g h)) (fun _ => rfl)) (.inl rfl)) fun _ => k

/-- The last `c` of the 22 groups, in order; then `k`. -/
def groups (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (k : P (F := F) PUnit) (c : Nat) : P (F := F) PUnit :=
  Nat.rec (motive := fun _ => P (F := F) PUnit) k (fun c ih => if h : 22 - (c + 1) < 22 then group arg1 harg1 arg2 harg2 arg3 harg3 arg4 harg4 arg5 harg5 arg6 harg6 arg7 harg7 arg8 harg8 (22 - (c + 1)) h ih else ih) c

/-! ## The product of one head -/

theorem inb_h (h : Nat) (hh : h < 16) : ∀ a, (![h, 0, 0] : Fin 3 → Nat) a + S1x256x2816.size a ≤ S16x256x2816.size a := by
  intro a; fin_cases a <;> simp <;> omega

theorem inb_o1 (h : Nat) (hh : h < 16) : ∀ a, (![0, h, 0] : Fin 3 → Nat) a + S512x1x256.size a ≤ S512x16x256.size a := by
  intro a; fin_cases a <;> simp <;> omega

theorem inb_o2 (h : Nat) (hh : h < 16) : ∀ a, (![0, h / 2 * 2, 0] : Fin 3 → Nat) a + S512x2x256.size a ≤ S512x16x256.size a := by
  intro a; fin_cases a <;> simp <;> omega

theorem packed_o (h : Nat) (hh : h < 16) :
    (Rect.unit (s := S512x16x256) ![0, h / 2 * 2, 0] S512x2x256.size (inb_o2 h hh)).PackedRows (EltTy.packing .bf16) :=
  .inr ⟨by decide, rfl, .inl ⟨by show 2 ∣ h / 2 * 2; omega, by show 2 ∣ 2; decide⟩⟩

theorem slices_o (h : Nat) : S512x2x256.Slices ![0, h % 2, 0] S512x1x256 := by
  refine ⟨rfl, fun a => ?_⟩
  fin_cases a
  · show 0 + 512 ≤ 512
    decide
  · show h % 2 + 1 ≤ 2
    omega
  · show 0 + 256 ≤ 256
    decide

/-- One head's product: the dequantised activations against the head's dequantised weights. -/
def prodh (x : Vec F S512x2816 .bf16) (w : Vec F S1x256x2816 .bf16) : FVec F S512x1x256 .bf16 :=
  shapeCast S512x1x256
    (truncf .bf16 (matmul dot_S512x2816_S256x2816_S512x256_1_1_0_0_n_n none x (shapeCast S256x2816 w shapeCasts_S1x256x2816_S256x2816) (constant S512x256 .f32 0x00000000#32)) bitsLt_bf16_f32)
    shapeCasts_S512x256_S512x1x256

/-- Head `h`'s product is computed and stored; then `k`. -/
def headp (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (h : Nat) (hh : h < 16) (k : P (F := F) PUnit) : P (F := F) PUnit :=
  .op (.load arg8 (Rect.unit (s := S512x2816) ![0, 0] S512x2816.size inb_S512x2816_S512x2816_0_0).toLoadRect (View.loadsAt_vmem h_S512x2816)) fun x =>
  .op (.load arg7 (Rect.unit (s := S16x256x2816) ![h, 0, 0] S1x256x2816.size (inb_h h hh)).toLoadRect (View.loadsAt_vmem h_S1x256x2816)) fun w =>
  .op (.load arg4 (Rect.unit (s := S512x16x256) ![0, h, 0] S512x1x256.size (inb_o1 h hh)).toLoadRect (View.loadsAt_vmem h_S512x1x256)) fun _ =>
  .op (.load arg4 (Rect.unit (s := S512x16x256) ![0, h / 2 * 2, 0] S512x2x256.size (inb_o2 h hh)).toLoadRect (View.loadsAt_vmem h_S512x2x256)) fun old =>
  .op (.store arg4 (Rect.unit (s := S512x16x256) ![0, h / 2 * 2, 0] S512x2x256.size (inb_o2 h hh)) (updateSlice old (prodh x w) ![0, h % 2, 0] (slices_o h)) Finset.univ (View.stores_vmem h_S512x2x256 (harg4.storeExact_slice rfl _ (packed_o h hh)) (fun _ => rfl)) (.inl rfl)) fun _ => k

/-- The last `c` of the 16 heads, in order; then `k`. -/
def heads (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) (k : P (F := F) PUnit) (c : Nat) : P (F := F) PUnit :=
  Nat.rec (motive := fun _ => P (F := F) PUnit) k (fun c ih => if h : 16 - (c + 1) < 16 then headp arg1 harg1 arg2 harg2 arg3 harg3 arg4 harg4 arg5 harg5 arg6 harg6 arg7 harg7 arg8 harg8 (16 - (c + 1)) h ih else ih) c

/-- Whether a grid point is the first, as the kernel tests it. -/
abbrev first (i : grid0.Coords) : Prop :=
  Scalar.cmpi .ne (Scalar.extui (Scalar.cmpi .eq (BitVec.ofNat 32 (i 0).val) 0#32) : BitVec 32) 0#32 = 1#1

/-- A program that begins with a test equals another if it does in both cases. -/
theorem dite_bind₂ {α β γ : Type} {c : Prop} [Decidable c] {t : c → P (F := F) α} {e : ¬ c → P (F := F) α}
    {k₁ : α → P (F := F) β} {k₂ : β → P (F := F) γ} {r : P (F := F) γ}
    (ht : ∀ h : c, ((t h >>= k₁) >>= k₂) = r) (he : ∀ h : ¬ c, ((e h >>= k₁) >>= k₂) = r) :
    ((dite c t e >>= k₁) >>= k₂) = r := by
  by_cases h : c
  · rw [dif_pos h]; exact ht h
  · rw [dif_neg h]; exact he h

set_option maxRecDepth 1000000 in
set_option maxHeartbeats 0 in
/-- The kernel's body is, at the first grid point, the 704 weight tiles, and at every grid point the 22
    groups and then the 16 heads. -/
theorem body_eq (i : grid0.Coords) (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) :
    cc0_up_projection (F := F) i arg1 harg1 arg2 harg2 arg3 harg3 arg4 harg4 arg5 harg5 arg6 harg6 arg7 harg7 arg8 harg8 =
      (if first i then tiles arg1 harg1 arg2 harg2 arg3 harg3 arg4 harg4 arg5 harg5 arg6 harg6 arg7 harg7 arg8 harg8 (.ret ⟨⟩) 704 else .ret ⟨⟩) >>= fun _ =>
        groups arg1 harg1 arg2 harg2 arg3 harg3 arg4 harg4 arg5 harg5 arg6 harg6 arg7 harg7 arg8 harg8 (heads arg1 harg1 arg2 harg2 arg3 harg3 arg4 harg4 arg5 harg5 arg6 harg6 arg7 harg7 arg8 harg8 (.ret ⟨⟩) 16) 22 := by
  unfold cc0_up_projection k0_part283
  unfold k0_part227
  refine dite_bind₂ (c := first i) (fun h => ?_) (fun h => ?_)
  · rw [if_pos h]
    rfl
  · rw [if_neg h]
    rfl

end Cert.Kernel.Body
-- ==== Proof.Steps.lean ====
module

public import proofs.«01_k».proof.Proof.Body
public import Idealize.ShloMosaic.Lib.VecWindow
public import Idealize.ShloMosaic.Lib.Pipeline.FrameBody

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]

local notation "𝕄" => MT nD τ sig Unit (Elt F) ℕ (UR sig nD τ) ℕ

/-! ## Loads and stores by values -/

/-- A load at a unit-stride rectangle of a memref that holds `X` reads a window of `X`. -/
theorem wp_load_own (c : Thread nD τ) (E : Set ℕ) {cs : CoreSpace} {s : Shape} {e : EltTy} {α : Type} {m : Memref sig c.2.kind cs s e}
    {off size : Fin s.rank → ℕ} {inb : ∀ a, off a + size a ≤ s.size a} {hl : m.view.LoadsAt (Rect.unit off size inb).toLoadRect}
    {k : ((Rect.unit off size inb).toLoadRect.shape.Idx → Elt F e) → Prog (TpuEff nD τ sig (Elt F) Λ₀ c.2) α} {Q : α → sProp 𝕄}
    {X : s.Idx → Elt F e} :
    owns c m fullShare X
      ⊢ iprop((owns c m fullShare X -∗ wp frame (wpE (defs₀ (F := F)) Variants.none c none) E (k (VecWindow.window X off size inb)) Q)
        -∗ wp frame (wpE (defs₀ (F := F)) Variants.none c none) E (.op (.load m (Rect.unit off size inb).toLoadRect hl) k) Q) := by
  unfold owns
  iintro ⟨%f, %hf, H⟩ Hk
  subst hf
  iapply (wp_load Variants.none c none E (m := m) (S := m.view.set) (f := f) (View.setOn_subset_set _ _)) $$ H
  iintro H
  rw [View.readAt_unit m.view f inb rfl inb]
  iapply Hk
  iexists f; isplitr; · ipureintro; rfl
  iexact H

/-- A store at a unit-stride rectangle of a memref that holds `X` puts the payload over that window. -/
theorem wp_store_own (c : Thread nD τ) (E : Set ℕ) {cs : CoreSpace} {s : Shape} {e : EltTy} {α : Type} {m : Memref sig c.2.kind cs s e}
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ c.2) α} {Q : α → sProp 𝕄}
    {X : s.Idx → Elt F e} :
    owns c m fullShare X
      ⊢ iprop((owns c m fullShare (VecWindow.put X off size w) -∗ wp frame (wpE (defs₀ (F := F)) Variants.none c none) E (k ⟨⟩) Q)
        -∗ wp frame (wpE (defs₀ (F := F)) Variants.none c none) E (.op (.store m (Rect.unit off size inb) w Finset.univ hx hm) k) Q) := by
  unfold owns
  iintro ⟨%f, %hf, H⟩ Hk
  subst hf
  iapply (wp_store_writes₀ Variants.none c none E (m := m) (r := Rect.unit off size inb) (w := w) (hx := hx) (hm := hm) (k := k)
    (S := m.view.set) (f := f) (m.view.set_slice_subset _)) $$ H
  iintro H
  iapply Hk
  iexists _; isplitr
  swap; · iexact H
  ipureintro
  exact View.read_writes_cons_put m.view f inb w [] rfl

/-! ## Contents built window by window -/

/-- A window put over contents that agree with `G` at the keys below `n`, the window holding the key `n` and
    its payload agreeing with `G`, agrees with `G` at the keys below `n + 1`. -/
theorem put_step {α : Type} {s : Shape} (x G : s.Idx → α) (off size : Fin s.rank → ℕ) (w : ((a : Fin s.rank) → Fin (size a)) → α)
    (key : s.Idx → ℕ) (n N : ℕ) (hN : N = n + 1)
    (hx : ∀ i, key i < n → x i = G i)
    (hin : ∀ (i : s.Idx) (h : ∀ a, off a ≤ (i a).val ∧ (i a).val < off a + size a), w (Rect.unitLocal (s := s) (off := off) (size := size) i h) = G i)
    (hkey : ∀ i : s.Idx, key i = n → ∀ a, off a ≤ (i a).val ∧ (i a).val < off a + size a) :
    ∀ i, key i < N → VecWindow.put x off size w i = G i := by
  intro i hi
  unfold VecWindow.put
  by_cases h : ∀ a, off a ≤ (i a).val ∧ (i a).val < off a + size a
  · rw [dif_pos h]; exact hin i h
  · rw [dif_neg h]
    refine hx i ?_
    have : key i ≠ n := fun e => h (hkey i e)
    omega

/-! ## What the body computes, index by index -/

/-- The weight tile an index of the weights lies in. -/
def tileOf (i : S16x256x2816.Idx) : ℕ := (i 0).val * 44 + (i 1).val / 128 * 22 + (i 2).val / 128

theorem tileOf_lt (i : S16x256x2816.Idx) : tileOf i < 704 := by
  have h0 : (i 0).val < 16 := (i 0).isLt
  have h1 : (i 1).val < 256 := (i 1).isLt
  have h2 : (i 2).val < 2816 := (i 2).isLt
  unfold tileOf; omega

theorem mem_tile (i : S16x256x2816.Idx) :
    ∀ a, woff (tileOf i) a ≤ (i a).val ∧ (i a).val < woff (tileOf i) a + S1x128x128.size a := by
  have h0 : (i 0).val < 16 := (i 0).isLt
  have h1 : (i 1).val < 256 := (i 1).isLt
  have h2 : (i 2).val < 2816 := (i 2).isLt
  intro a; fin_cases a
  · show tileOf i / 44 ≤ (i 0).val ∧ (i 0).val < tileOf i / 44 + 1
    unfold tileOf; omega
  · show tileOf i / 22 % 2 * 128 ≤ (i 1).val ∧ (i 1).val < tileOf i / 22 % 2 * 128 + 128
    unfold tileOf; omega
  · show tileOf i % 22 * 128 ≤ (i 2).val ∧ (i 2).val < tileOf i % 22 * 128 + 128
    unfold tileOf; omega

theorem tileOf_of_mem (n : ℕ) (hn : n < 704) (i : S16x256x2816.Idx)
    (h : ∀ a, woff n a ≤ (i a).val ∧ (i a).val < woff n a + S1x128x128.size a) : tileOf i = n := by
  have h0 : n / 44 ≤ (i 0).val ∧ (i 0).val < n / 44 + 1 := h 0
  have h1 : n / 22 % 2 * 128 ≤ (i 1).val ∧ (i 1).val < n / 22 % 2 * 128 + 128 := h 1
  have h2 : n % 22 * 128 ≤ (i 2).val ∧ (i 2).val < n % 22 * 128 + 128 := h 2
  unfold tileOf; omega

/-- The scale of weight tile `n`. -/
def wsc (S : Vec F S32x22 .f32) (n : ℕ) (h : n < 704) : Elt F .f32 :=
  VecWindow.window (s := S32x22) S (soff n) S1x1.size (inb_s n h) (Shape.Idx.first (Eq.symm numel1_S1x1 ▸ Nat.one_pos))

/-- The dequantised weights. -/
def wB (W : Vec F S16x256x2816 .fp8e4m3) (S : Vec F S32x22 .f32) : Vec F S16x256x2816 .bf16 := fun i =>
  wtile (wsc S (tileOf i) (tileOf_lt i)) (VecWindow.window (s := S16x256x2816) W (woff (tileOf i)) S1x128x128.size (inb_w _ (tileOf_lt i)))
    (Rect.unitLocal (s := S16x256x2816) (off := woff (tileOf i)) (size := S1x128x128.size) i (mem_tile i))

theorem wB_of_mem (W : Vec F S16x256x2816 .fp8e4m3) (S : Vec F S32x22 .f32) (n : ℕ) (hn : n < 704) (i : S16x256x2816.Idx)
    (h : ∀ a, woff n a ≤ (i a).val ∧ (i a).val < woff n a + S1x128x128.size a) :
    wtile (wsc S n hn) (VecWindow.window (s := S16x256x2816) W (woff n) S1x128x128.size (inb_w n hn))
      (Rect.unitLocal (s := S16x256x2816) (off := woff n) (size := S1x128x128.size) i h) = wB W S i := by
  obtain rfl := tileOf_of_mem n hn i h
  rfl

theorem goff_lt (i : S512x2816.Idx) : (i 1).val / 128 < 22 := by
  have h1 : (i 1).val < 2816 := (i 1).isLt
  omega

theorem mem_g (g : ℕ) (i : S512x2816.Idx) (hg : (i 1).val / 128 = g) :
    ∀ a, (![0, g * 128] : Fin 2 → ℕ) a ≤ (i a).val ∧ (i a).val < (![0, g * 128] : Fin 2 → ℕ) a + S512x128.size a := by
  have h0 : (i 0).val < 512 := (i 0).isLt
  intro a; fin_cases a
  · show 0 ≤ (i 0).val ∧ (i 0).val < 0 + 512
    omega
  · show g * 128 ≤ (i 1).val ∧ (i 1).val < g * 128 + 128
    omega

theorem g_of_mem (g : ℕ) (i : S512x2816.Idx)
    (h : ∀ a, (![0, g * 128] : Fin 2 → ℕ) a ≤ (i a).val ∧ (i a).val < (![0, g * 128] : Fin 2 → ℕ) a + S512x128.size a) :
    (i 1).val / 128 = g := by
  have h1 : g * 128 ≤ (i 1).val ∧ (i 1).val < g * 128 + 128 := h 1
  omega

theorem mem_x (g : ℕ) (i : S512x22.Idx) (hg : (i 1).val = g) :
    ∀ a, (![0, g] : Fin 2 → ℕ) a ≤ (i a).val ∧ (i a).val < (![0, g] : Fin 2 → ℕ) a + S512x1.size a := by
  have h0 : (i 0).val < 512 := (i 0).isLt
  intro a; fin_cases a
  · show 0 ≤ (i 0).val ∧ (i 0).val < 0 + 512
    omega
  · show g ≤ (i 1).val ∧ (i 1).val < g + 1
    omega

theorem x_of_mem (g : ℕ) (i : S512x22.Idx)
    (h : ∀ a, (![0, g] : Fin 2 → ℕ) a ≤ (i a).val ∧ (i a).val < (![0, g] : Fin 2 → ℕ) a + S512x1.size a) :
    (i 1).val = g := by
  have h1 : g ≤ (i 1).val ∧ (i 1).val < g + 1 := h 1
  omega

/-- Group `g` of a block of activations. -/
abbrev gwin (X : Vec F S512x2816 .bf16) (g : ℕ) (h : g < 22) : Vec F S512x128 .bf16 :=
  VecWindow.window (s := S512x2816) X ![0, g * 128] S512x128.size (inb_g g h)

/-- A block's codes. -/
def cB (X : Vec F S512x2816 .bf16) : Vec F S512x2816 .fp8e4m3 := fun i =>
  gcodes (gwin X ((i 1).val / 128) (goff_lt i))
    (Rect.unitLocal (s := S512x2816) (off := ![0, (i 1).val / 128 * 128]) (size := S512x128.size) i (mem_g _ i rfl))

/-- A block's dequantised activations. -/
def xB (X : Vec F S512x2816 .bf16) : Vec F S512x2816 .bf16 := fun i =>
  gxw (gwin X ((i 1).val / 128) (goff_lt i))
    (Rect.unitLocal (s := S512x2816) (off := ![0, (i 1).val / 128 * 128]) (size := S512x128.size) i (mem_g _ i rfl))

/-- A block's scales. -/
def sB (X : Vec F S512x2816 .bf16) : Vec F S512x22 .f32 := fun i =>
  gscale (gwin X (i 1).val (i 1).isLt)
    (Rect.unitLocal (s := S512x22) (off := ![0, (i 1).val]) (size := S512x1.size) i (mem_x _ i rfl))

theorem cB_of_mem (X : Vec F S512x2816 .bf16) (g : ℕ) (hg : g < 22) (i : S512x2816.Idx)
    (h : ∀ a, (![0, g * 128] : Fin 2 → ℕ) a ≤ (i a).val ∧ (i a).val < (![0, g * 128] : Fin 2 → ℕ) a + S512x128.size a) :
    gcodes (gwin X g hg) (Rect.unitLocal (s := S512x2816) (off := ![0, g * 128]) (size := S512x128.size) i h) = cB X i := by
  obtain rfl := g_of_mem g i h
  rfl

theorem xB_of_mem (X : Vec F S512x2816 .bf16) (g : ℕ) (hg : g < 22) (i : S512x2816.Idx)
    (h : ∀ a, (![0, g * 128] : Fin 2 → ℕ) a ≤ (i a).val ∧ (i a).val < (![0, g * 128] : Fin 2 → ℕ) a + S512x128.size a) :
    gxw (gwin X g hg) (Rect.unitLocal (s := S512x2816) (off := ![0, g * 128]) (size := S512x128.size) i h) = xB X i := by
  obtain rfl := g_of_mem g i h
  rfl

theorem sB_of_mem (X : Vec F S512x2816 .bf16) (g : ℕ) (hg : g < 22) (i : S512x22.Idx)
    (h : ∀ a, (![0, g] : Fin 2 → ℕ) a ≤ (i a).val ∧ (i a).val < (![0, g] : Fin 2 → ℕ) a + S512x1.size a) :
    gscale (gwin X g hg) (Rect.unitLocal (s := S512x22) (off := ![0, g]) (size := S512x1.size) i h) = sB X i := by
  obtain rfl := x_of_mem g i h
  rfl

theorem mem_o (h : ℕ) (i : S512x16x256.Idx) (hh : (i 1).val = h) :
    ∀ a, (![0, h, 0] : Fin 3 → ℕ) a ≤ (i a).val ∧ (i a).val < (![0, h, 0] : Fin 3 → ℕ) a + S512x1x256.size a := by
  have h0 : (i 0).val < 512 := (i 0).isLt
  have h2 : (i 2).val < 256 := (i 2).isLt
  intro a; fin_cases a
  · show 0 ≤ (i 0).val ∧ (i 0).val < 0 + 512
    omega
  · show h ≤ (i 1).val ∧ (i 1).val < h + 1
    omega
  · show 0 ≤ (i 2).val ∧ (i 2).val < 0 + 256
    omega

theorem mem_o2 (h : ℕ) (i : S512x16x256.Idx) (hh : (i 1).val / 2 = h / 2) :
    ∀ a, (![0, h / 2 * 2, 0] : Fin 3 → ℕ) a ≤ (i a).val ∧ (i a).val < (![0, h / 2 * 2, 0] : Fin 3 → ℕ) a + S512x2x256.size a := by
  have h0 : (i 0).val < 512 := (i 0).isLt
  have h2 : (i 2).val < 256 := (i 2).isLt
  intro a; fin_cases a
  · show 0 ≤ (i 0).val ∧ (i 0).val < 0 + 512
    omega
  · show h / 2 * 2 ≤ (i 1).val ∧ (i 1).val < h / 2 * 2 + 2
    omega
  · show 0 ≤ (i 2).val ∧ (i 2).val < 0 + 256
    omega

/-- A block's products, from its dequantised activations and the dequantised weights. -/
def oB (XW : Vec F S512x2816 .bf16) (WB : Vec F S16x256x2816 .bf16) : Vec F S512x16x256 .bf16 := fun i =>
  prodh XW (VecWindow.window (s := S16x256x2816) WB ![(i 1).val, 0, 0] S1x256x2816.size (inb_h _ (i 1).isLt))
    (Rect.unitLocal (s := S512x16x256) (off := ![0, (i 1).val, 0]) (size := S512x1x256.size) i (mem_o _ i rfl))

/-- A head's product put into its pair of heads leaves the heads before it as they were and that head at its product. -/
theorem put_head (XW : Vec F S512x2816 .bf16) (WB : Vec F S16x256x2816 .bf16) (x : Vec F S512x16x256 .bf16) (h N : ℕ) (hh : h < 16)
    (hN : N = h + 1) (hx : ∀ i : S512x16x256.Idx, (i 1).val < h → x i = oB XW WB i) :
    ∀ i : S512x16x256.Idx, (i 1).val < N →
      VecWindow.put (s := S512x16x256) x ![0, h / 2 * 2, 0] S512x2x256.size
        (updateSlice (s := S512x2x256) (VecWindow.window (s := S512x16x256) x ![0, h / 2 * 2, 0] S512x2x256.size (inb_o2 h hh))
          (prodh XW (VecWindow.window (s := S16x256x2816) WB ![h, 0, 0] S1x256x2816.size (inb_h h hh))) ![0, h % 2, 0] (slices_o h)) i
        = oB XW WB i := by
  intro i hi
  unfold VecWindow.put
  by_cases hm : ∀ a, (![0, h / 2 * 2, 0] : Fin 3 → ℕ) a ≤ (i a).val ∧ (i a).val < (![0, h / 2 * 2, 0] : Fin 3 → ℕ) a + S512x2x256.size a
  · have hm1 : h / 2 * 2 ≤ (i 1).val ∧ (i 1).val < h / 2 * 2 + 2 := hm 1
    rw [dif_pos hm]
    unfold updateSlice
    by_cases he : (i 1).val = h
    · subst he
      rw [dif_pos]
      · refine congrArg (prodh XW _) (funext fun a => Fin.ext ?_)
        fin_cases a
        · show (i 0).val - 0 - 0 = (i 0).val - 0
          omega
        · show (i 1).val - (i 1).val / 2 * 2 - (i 1).val % 2 = (i 1).val - (i 1).val
          omega
        · show (i 2).val - 0 - 0 = (i 2).val - 0
          omega
      · have h0 : (i 0).val < 512 := (i 0).isLt
        have h2 : (i 2).val < 256 := (i 2).isLt
        intro a; fin_cases a
        · show 0 ≤ (i 0).val - 0 ∧ (i 0).val - 0 < 0 + 512
          omega
        · show (i 1).val % 2 ≤ (i 1).val - (i 1).val / 2 * 2 ∧ (i 1).val - (i 1).val / 2 * 2 < (i 1).val % 2 + 1
          omega
        · show 0 ≤ (i 2).val - 0 ∧ (i 2).val - 0 < 0 + 256
          omega
    · rw [dif_neg]
      · refine Eq.trans ?_ (hx i (by omega))
        refine congrArg x (funext fun a => Fin.ext ?_)
        have ha := hm a
        show (![0, h / 2 * 2, 0] : Fin 3 → ℕ) a + 1 * ((i a).val - (![0, h / 2 * 2, 0] : Fin 3 → ℕ) a) = (i a).val
        omega
      · intro hall
        have h1 : h % 2 ≤ (i 1).val - h / 2 * 2 ∧ (i 1).val - h / 2 * 2 < h % 2 + 1 := hall 1
        omega
  · rw [dif_neg hm]
    refine hx i ?_
    have : (i 1).val ≠ h := fun e => hm (mem_o2 h i (by omega))
    omega

end Cert.Kernel.Body
-- ==== Proof.Triple.lean ====
module

public import proofs.«01_k».proof.Proof.Steps

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]

local notation "𝕄" => MT nD τ sig Unit (Elt F) ℕ (UR sig nD τ) ℕ

variable (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole)

/-- The remaining weight tiles, the ones before them already dequantised, leave all the weights dequantised. -/
theorem tiles_sound (c : Dev nD) (E : Set ℕ) (W : Vec F S16x256x2816 .fp8e4m3) (S : Vec F S32x22 .f32) (k : P (F := F) PUnit) (K : PUnit → sProp 𝕄)
    (n : ℕ) : n ≤ 704 → ∀ Y : Vec F S16x256x2816 .bf16, (∀ i, tileOf i < 704 - n → Y i = wB W S i) →
    (iprop(owns (c : Thread nD τ) arg2 fullShare W ∗ owns (c : Thread nD τ) arg3 fullShare S ∗ owns (c : Thread nD τ) arg7 fullShare Y
      ∗ (iprop(owns (c : Thread nD τ) arg2 fullShare W ∗ owns (c : Thread nD τ) arg3 fullShare S ∗ owns (c : Thread nD τ) arg7 fullShare (wB W S))
          -∗ wp frame (wpE (defs₀ (F := F)) Variants.none (c : Thread nD τ) none) E k K)) : sProp 𝕄)
      ⊢ wp frame (wpE (defs₀ (F := F)) Variants.none (c : Thread nD τ) none) E
          (tiles arg1 harg1 arg2 harg2 arg3 harg3 arg4 harg4 arg5 harg5 arg6 harg6 arg7 harg7 arg8 harg8 k n) K := by
  induction n with
  | zero =>
    intro _ Y hY
    have hY' : Y = wB W S := funext fun i => hY i (tileOf_lt i)
    subst hY'
    iintro ⟨H2, H3, H7, Hk⟩
    iapply Hk
    isplitl [H2]; · iexact H2
    isplitl [H3]; · iexact H3
    iexact H7
  | succ n ih =>
    intro hn Y hY
    have hlt : 704 - (n + 1) < 704 := by omega
    have hstep : tiles arg1 harg1 arg2 harg2 arg3 harg3 arg4 harg4 arg5 harg5 arg6 harg6 arg7 harg7 arg8 harg8 k (n + 1)
        = tile arg1 harg1 arg2 harg2 arg3 harg3 arg4 harg4 arg5 harg5 arg6 harg6 arg7 harg7 arg8 harg8 (704 - (n + 1)) hlt
            (tiles arg1 harg1 arg2 harg2 arg3 harg3 arg4 harg4 arg5 harg5 arg6 harg6 arg7 harg7 arg8 harg8 k n) := dif_pos hlt
    rw [hstep]
    unfold tile
    iintro ⟨H2, H3, H7, Hk⟩
    iapply (wp_load_own (c : Thread nD τ) E (m := arg3)) $$ H3; iintro H3
    iapply (wp_load_own (c : Thread nD τ) E (m := arg2)) $$ H2; iintro H2
    iapply (wp_load_own (c : Thread nD τ) E (m := arg7)) $$ H7; iintro H7
    iapply (wp_store_own (c : Thread nD τ) E (m := arg7)) $$ H7; iintro H7
    iapply (ih (by omega) _ (put_step Y (wB W S) (woff (704 - (n + 1))) S1x128x128.size _ tileOf (704 - (n + 1)) (704 - n) (by omega) hY
      (fun i h => wB_of_mem W S _ hlt i h) (fun i hi => hi ▸ mem_tile i)))
    isplitl [H2]; · iexact H2
    isplitl [H3]; · iexact H3
    isplitl [H7]; · iexact H7
    iexact Hk

/-- The remaining groups, the ones before them already quantised, leave the block's codes, scales and dequantised entries. -/
theorem groups_sound (c : Dev nD) (E : Set ℕ) (X : Vec F S512x2816 .bf16) (k : P (F := F) PUnit) (K : PUnit → sProp 𝕄)
    (n : ℕ) : n ≤ 22 → ∀ (Y5 : Vec F S512x2816 .fp8e4m3) (Y6 : Vec F S512x22 .f32) (Y8 : Vec F S512x2816 .bf16),
    (∀ i : S512x2816.Idx, (i 1).val / 128 < 22 - n → Y5 i = cB X i) → (∀ i : S512x22.Idx, (i 1).val < 22 - n → Y6 i = sB X i) →
    (∀ i : S512x2816.Idx, (i 1).val / 128 < 22 - n → Y8 i = xB X i) →
    (iprop(owns (c : Thread nD τ) arg1 fullShare X ∗ owns (c : Thread nD τ) arg5 fullShare Y5 ∗ owns (c : Thread nD τ) arg6 fullShare Y6 ∗ owns (c : Thread nD τ) arg8 fullShare Y8
      ∗ (iprop(owns (c : Thread nD τ) arg1 fullShare X ∗ owns (c : Thread nD τ) arg5 fullShare (cB X) ∗ owns (c : Thread nD τ) arg6 fullShare (sB X) ∗ owns (c : Thread nD τ) arg8 fullShare (xB X))
          -∗ wp frame (wpE (defs₀ (F := F)) Variants.none (c : Thread nD τ) none) E k K)) : sProp 𝕄)
      ⊢ wp frame (wpE (defs₀ (F := F)) Variants.none (c : Thread nD τ) none) E
          (groups arg1 harg1 arg2 harg2 arg3 harg3 arg4 harg4 arg5 harg5 arg6 harg6 arg7 harg7 arg8 harg8 k n) K := by
  induction n with
  | zero =>
    intro _ Y5 Y6 Y8 h5 h6 h8
    have e5 : Y5 = cB X := funext fun i => h5 i (goff_lt i)
    have e6 : Y6 = sB X := funext fun i => h6 i (i 1).isLt
    have e8 : Y8 = xB X := funext fun i => h8 i (goff_lt i)
    subst e5 e6 e8
    iintro ⟨H1, H5, H6, H8, Hk⟩
    iapply Hk
    isplitl [H1]; · iexact H1
    isplitl [H5]; · iexact H5
    isplitl [H6]; · iexact H6
    iexact H8
  | succ n ih =>
    intro hn Y5 Y6 Y8 h5 h6 h8
    have hlt : 22 - (n + 1) < 22 := by omega
    have hstep : groups arg1 harg1 arg2 harg2 arg3 harg3 arg4 harg4 arg5 harg5 arg6 harg6 arg7 harg7 arg8 harg8 k (n + 1)
        = group arg1 harg1 arg2 harg2 arg3 harg3 arg4 harg4 arg5 harg5 arg6 harg6 arg7 harg7 arg8 harg8 (22 - (n + 1)) hlt
            (groups arg1 harg1 arg2 harg2 arg3 harg3 arg4 harg4 arg5 harg5 arg6 harg6 arg7 harg7 arg8 harg8 k n) := dif_pos hlt
    rw [hstep]
    unfold group
    iintro ⟨H1, H5, H6, H8, Hk⟩
    iapply (wp_load_own (c : Thread nD τ) E (m := arg1)) $$ H1; iintro H1
    iapply (wp_load_own (c : Thread nD τ) E (m := arg5)) $$ H5; iintro H5
    iapply (wp_store_own (c : Thread nD τ) E (m := arg5)) $$ H5; iintro H5
    iapply (wp_load_own (c : Thread nD τ) E (m := arg6)) $$ H6; iintro H6
    iapply (wp_store_own (c : Thread nD τ) E (m := arg6)) $$ H6; iintro H6
    iapply (wp_load_own (c : Thread nD τ) E (m := arg8)) $$ H8; iintro H8
    iapply (wp_store_own (c : Thread nD τ) E (m := arg8)) $$ H8; iintro H8
    iapply (ih (by omega) _ _ _
      (put_step Y5 (cB X) ![0, (22 - (n + 1)) * 128] S512x128.size _ (fun i => (i 1).val / 128) (22 - (n + 1)) (22 - n) (by omega) h5
        (fun i h => cB_of_mem X _ hlt i h) (fun i hi => mem_g _ i hi))
      (put_step Y6 (sB X) ![0, 22 - (n + 1)] S512x1.size _ (fun i => (i 1).val) (22 - (n + 1)) (22 - n) (by omega) h6
        (fun i h => sB_of_mem X _ hlt i h) (fun i hi => mem_x _ i hi))
      (put_step Y8 (xB X) ![0, (22 - (n + 1)) * 128] S512x128.size _ (fun i => (i 1).val / 128) (22 - (n + 1)) (22 - n) (by omega) h8
        (fun i h => xB_of_mem X _ hlt i h) (fun i hi => mem_g _ i hi)))
    isplitl [H1]; · iexact H1
    isplitl [H5]; · iexact H5
    isplitl [H6]; · iexact H6
    isplitl [H8]; · iexact H8
    iexact Hk

omit [FloatOps F] in
/-- The window of all of a block is the block. -/
theorem window_all (X : Vec F S512x2816 .bf16) :
    VecWindow.window (s := S512x2816) X ![0, 0] S512x2816.size inb_S512x2816_S512x2816_0_0 = X := by
  funext y
  refine congrArg X (funext fun a => Fin.ext ?_)
  show (![0, 0] : Fin 2 → ℕ) a + 1 * (y a).val = (y a).val
  fin_cases a <;> simp

/-- The remaining heads, the ones before them already multiplied, leave all the products. -/
theorem heads_sound (c : Dev nD) (E : Set ℕ) (XW : Vec F S512x2816 .bf16) (WB : Vec F S16x256x2816 .bf16) (k : P (F := F) PUnit) (K : PUnit → sProp 𝕄)
    (n : ℕ) : n ≤ 16 → ∀ Y : Vec F S512x16x256 .bf16, (∀ i : S512x16x256.Idx, (i 1).val < 16 - n → Y i = oB XW WB i) →
    (iprop(owns (c : Thread nD τ) arg8 fullShare XW ∗ owns (c : Thread nD τ) arg7 fullShare WB ∗ owns (c : Thread nD τ) arg4 fullShare Y
      ∗ (iprop(owns (c : Thread nD τ) arg8 fullShare XW ∗ owns (c : Thread nD τ) arg7 fullShare WB ∗ owns (c : Thread nD τ) arg4 fullShare (oB XW WB))
          -∗ wp frame (wpE (defs₀ (F := F)) Variants.none (c : Thread nD τ) none) E k K)) : sProp 𝕄)
      ⊢ wp frame (wpE (defs₀ (F := F)) Variants.none (c : Thread nD τ) none) E
          (heads arg1 harg1 arg2 harg2 arg3 harg3 arg4 harg4 arg5 harg5 arg6 harg6 arg7 harg7 arg8 harg8 k n) K := by
  induction n with
  | zero =>
    intro _ Y hY
    have hY' : Y = oB XW WB := funext fun i => hY i (i 1).isLt
    subst hY'
    iintro ⟨H8, H7, H4, Hk⟩
    iapply Hk
    isplitl [H8]; · iexact H8
    isplitl [H7]; · iexact H7
    iexact H4
  | succ n ih =>
    intro hn Y hY
    have hlt : 16 - (n + 1) < 16 := by omega
    have hstep : heads arg1 harg1 arg2 harg2 arg3 harg3 arg4 harg4 arg5 harg5 arg6 harg6 arg7 harg7 arg8 harg8 k (n + 1)
        = headp arg1 harg1 arg2 harg2 arg3 harg3 arg4 harg4 arg5 harg5 arg6 harg6 arg7 harg7 arg8 harg8 (16 - (n + 1)) hlt
            (heads arg1 harg1 arg2 harg2 arg3 harg3 arg4 harg4 arg5 harg5 arg6 harg6 arg7 harg7 arg8 harg8 k n) := dif_pos hlt
    rw [hstep]
    unfold headp
    iintro ⟨H8, H7, H4, Hk⟩
    iapply (wp_load_own (c : Thread nD τ) E (m := arg8)) $$ H8; iintro H8
    iapply (wp_load_own (c : Thread nD τ) E (m := arg7)) $$ H7; iintro H7
    iapply (wp_load_own (c : Thread nD τ) E (m := arg4)) $$ H4; iintro H4
    iapply (wp_load_own (c : Thread nD τ) E (m := arg4)) $$ H4; iintro H4
    iapply (wp_store_own (c : Thread nD τ) E (m := arg4)) $$ H4; iintro H4
    rw [window_all]
    iapply (ih (by omega) _ (put_head XW WB Y (16 - (n + 1)) (16 - n) hlt (by omega) hY))
    isplitl [H8]; · iexact H8
    isplitl [H7]; · iexact H7
    isplitl [H4]; · iexact H4
    iexact Hk

/-- The body on whole memrefs, its inputs at `X`, `W` and `S` and, but at the first grid point, its weight
    scratch at the dequantised weights: it leaves the inputs, the weight scratch at the dequantised weights,
    and the outputs at the block's products, codes and scales. -/
theorem sound_kernel (c : Dev nD) (E : Set ℕ) (i : grid0.Coords) (X : Vec F S512x2816 .bf16) (W : Vec F S16x256x2816 .fp8e4m3) (S : Vec F S32x22 .f32)
    (Y7 : Vec F S16x256x2816 .bf16) (h7 : ¬ first i → Y7 = wB W S) (K : PUnit → sProp 𝕄) :
    (iprop(owns (c : Thread nD τ) arg1 fullShare X ∗ owns (c : Thread nD τ) arg2 fullShare W ∗ owns (c : Thread nD τ) arg3 fullShare S
      ∗ (∃ d, owns (c : Thread nD τ) arg4 fullShare d) ∗ (∃ d, owns (c : Thread nD τ) arg5 fullShare d) ∗ (∃ d, owns (c : Thread nD τ) arg6 fullShare d)
      ∗ owns (c : Thread nD τ) arg7 fullShare Y7 ∗ (∃ d, owns (c : Thread nD τ) arg8 fullShare d)
      ∗ (iprop(owns (c : Thread nD τ) arg1 fullShare X ∗ owns (c : Thread nD τ) arg2 fullShare W ∗ owns (c : Thread nD τ) arg3 fullShare S
          ∗ owns (c : Thread nD τ) arg4 fullShare (oB (xB X) (wB W S)) ∗ owns (c : Thread nD τ) arg5 fullShare (cB X) ∗ owns (c : Thread nD τ) arg6 fullShare (sB X)
          ∗ owns (c : Thread nD τ) arg7 fullShare (wB W S) ∗ (∃ d, owns (c : Thread nD τ) arg8 fullShare d)) -∗ K ⟨⟩)) : sProp 𝕄)
      ⊢ wp frame (wpE (defs₀ (F := F)) Variants.none (c : Thread nD τ) none) E
          (cc0_up_projection i arg1 harg1 arg2 harg2 arg3 harg3 arg4 harg4 arg5 harg5 arg6 harg6 arg7 harg7 arg8 harg8) K := by
  rw [body_eq, wp_bind]
  have tail : (iprop(owns (c : Thread nD τ) arg1 fullShare X ∗ owns (c : Thread nD τ) arg2 fullShare W ∗ owns (c : Thread nD τ) arg3 fullShare S
      ∗ (∃ d, owns (c : Thread nD τ) arg4 fullShare d) ∗ (∃ d, owns (c : Thread nD τ) arg5 fullShare d) ∗ (∃ d, owns (c : Thread nD τ) arg6 fullShare d)
      ∗ owns (c : Thread nD τ) arg7 fullShare (wB W S) ∗ (∃ d, owns (c : Thread nD τ) arg8 fullShare d)
      ∗ (iprop(owns (c : Thread nD τ) arg1 fullShare X ∗ owns (c : Thread nD τ) arg2 fullShare W ∗ owns (c : Thread nD τ) arg3 fullShare S
          ∗ owns (c : Thread nD τ) arg4 fullShare (oB (xB X) (wB W S)) ∗ owns (c : Thread nD τ) arg5 fullShare (cB X) ∗ owns (c : Thread nD τ) arg6 fullShare (sB X)
          ∗ owns (c : Thread nD τ) arg7 fullShare (wB W S) ∗ (∃ d, owns (c : Thread nD τ) arg8 fullShare d)) -∗ K ⟨⟩)) : sProp 𝕄)
      ⊢ wp frame (wpE (defs₀ (F := F)) Variants.none (c : Thread nD τ) none) E
          (groups arg1 harg1 arg2 harg2 arg3 harg3 arg4 harg4 arg5 harg5 arg6 harg6 arg7 harg7 arg8 harg8
            (heads arg1 harg1 arg2 harg2 arg3 harg3 arg4 harg4 arg5 harg5 arg6 harg6 arg7 harg7 arg8 harg8 (.ret ⟨⟩) 16) 22) K := by
    iintro ⟨H1, H2, H3, ⟨%d4, H4⟩, ⟨%d5, H5⟩, ⟨%d6, H6⟩, H7, ⟨%d8, H8⟩, Hk⟩
    iapply (groups_sound arg1 harg1 arg2 harg2 arg3 harg3 arg4 harg4 arg5 harg5 arg6 harg6 arg7 harg7 arg8 harg8 c E X _ K 22 le_rfl d5 d6 d8
      (fun i hi => absurd hi (by omega)) (fun i hi => absurd hi (by omega)) (fun i hi => absurd hi (by omega)))
    isplitl [H1]; · iexact H1
    isplitl [H5]; · iexact H5
    isplitl [H6]; · iexact H6
    isplitl [H8]; · iexact H8
    iintro ⟨H1, H5, H6, H8⟩
    iapply (heads_sound arg1 harg1 arg2 harg2 arg3 harg3 arg4 harg4 arg5 harg5 arg6 harg6 arg7 harg7 arg8 harg8 c E (xB X) (wB W S) _ K 16 le_rfl d4
      (fun i hi => absurd hi (by omega)))
    isplitl [H8]; · iexact H8
    isplitl [H7]; · iexact H7
    isplitl [H4]; · iexact H4
    iintro ⟨H8, H7, H4⟩
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  by_cases hf : first i
  · rw [if_pos hf]
    iintro ⟨H1, H2, H3, H4, H5, H6, H7, H8, Hk⟩
    iapply (tiles_sound arg1 harg1 arg2 harg2 arg3 harg3 arg4 harg4 arg5 harg5 arg6 harg6 arg7 harg7 arg8 harg8 c E W S _ _ 704 le_rfl Y7
      (fun i hi => absurd hi (by omega)))
    isplitl [H2]; · iexact H2
    isplitl [H3]; · iexact H3
    isplitl [H7]; · iexact H7
    iintro ⟨H2, H3, H7⟩
    rw [wp_ret]; imodintro
    iapply tail
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk
  · rw [if_neg hf]
    obtain rfl := h7 hf
    iintro H
    rw [wp_ret]; imodintro
    iapply tail
    iexact H

end Cert.Kernel.Body
-- ==== Proof.Run.lean ====
module

public import proofs.«01_k».proof.Proof.Triple
public import proofs.«01_k».proof.Proof.Gen.Kernel.Frame
public import Idealize.ShloMosaic.Lib.Pipeline.Quiescent

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point is the one the kernel's test finds. -/
theorem first_iff (t : Fin cfg0.N) : first (grid0.coords t) ↔ t.val = 0 := by
  revert t; decide

/-- The first grid point. -/
abbrev t₀ : Fin cfg0.N := ⟨0, by decide⟩

/-- The weights' block is the same at every point. -/
theorem iblk1_const (c : Dev nD) (t : Fin cfg0.N) : iblk m c 1 t = iblk m c 1 t₀ := rfl

/-- The weight scales' block is the same at every point. -/
theorem iblk2_const (c : Dev nD) (t : Fin cfg0.N) : iblk m c 2 t = iblk m c 2 t₀ := rfl

/-- The dequantised weights of a launch. -/
abbrev wbv (c : Dev nD) : Vec F S16x256x2816 .bf16 := wB (F := F) (iblk m c 1 t₀) (iblk m c 2 t₀)

/-- What holds between the points: the weight scratch at anything before the first and at the dequantised weights
    after it, the activation scratch and the generator register at anything. -/
def inv (c : Dev nD) (t : Fin (cfg0.N + 1)) : sProp 𝕄 :=
  iprop(((∃ Y : Vec F S16x256x2816 .bf16, ⌜t.val ≠ 0 → Y = wbv m c⌝ ∗ owns (c : Thread nD τ) (Memref.whole cc0_scratch0) fullShare Y)
    ∗ (∃ Y : Vec F S512x2816 .bf16, owns (c : Thread nD τ) (Memref.whole cc0_scratch1) fullShare Y)) ∗ ∃ r, prngReg c r)

theorem inv_in (c : Dev nD) : (Pipeline.ΦA spec0 c : sProp 𝕄) ⊢ inv m c 0 := by
  unfold Pipeline.ΦA inv
  rw [scopedRest0_eq]
  simp only [owns_whole_eq]
  iintro ⟨⟨⟨%f, Hf⟩, ⟨%g, Hg⟩⟩, Hr⟩
  isplitl [Hf Hg]
  · isplitl [Hf]
    · iexists f
      isplitr; · ipureintro; exact fun h => absurd rfl h
      iexists f; isplitr; · ipureintro; rfl
      iexact Hf
    · iexists g
      iexists g; isplitr; · ipureintro; rfl
      iexact Hg
  · iexact Hr

theorem inv_out (c : Dev nD) : inv m c (Fin.last cfg0.N) ⊢ (Pipeline.ΦA spec0 c : sProp 𝕄) := by
  unfold Pipeline.ΦA inv
  rw [scopedRest0_eq]
  simp only [owns_whole_eq]
  iintro ⟨⟨⟨%Y, -, ⟨%f, -, Hf⟩⟩, ⟨%Z, ⟨%g, -, Hg⟩⟩⟩, Hr⟩
  isplitl [Hf Hg]
  · isplitl [Hf]
    · iexists f; iexact Hf
    · iexists g; iexact Hg
  · iexact Hr

/-- The pipeline's proof data: after the body each input's buffer at its block, each output's at what the body
    computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oB (F := F) (xB (F := F) (iblk m c 0 t)) (wbv m c)
    | ⟨4, _⟩ => cB (F := F) (iblk m c 0 t)
    | ⟨5, _⟩ => sB (F := F) (iblk m c 0 t)
  Φ t := inv m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oB (F := F) (xB (F := F) (iblk m c 0 t)) (wbv m c) := by dsimp only [dats]
theorem after0_4 (c : Dev nD) (t : Fin cfg0.N) : (dats m 0 c).after 4 t = cB (F := F) (iblk m c 0 t) := by dsimp only [dats]
theorem after0_5 (c : Dev nD) (t : Fin cfg0.N) : (dats m 0 c).after 5 t = sB (F := F) (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5]
  rw [iblk1_const m c t, iblk2_const m c t]
  unfold inv
  iintro ⟨⟨⟨⟨%Y7, %h7, H7⟩, H8⟩, Hr⟩, Ho, ⟨%d0, H0⟩, ⟨%d1, H1⟩, ⟨%d2, H2⟩, ⟨%d3, H3⟩, ⟨%d4, H4⟩, ⟨%d5, H5⟩⟩
  have h7' : ¬ first (grid0.coords t) → Y7 = wbv m c := fun hf => h7 fun h0 => hf ((first_iff t).mpr h0)
  iapply (sound_kernel _ _ _ _ _ _ _ _ _ _ _ _ _ _ _ _ c Set.univ (grid0.coords t) (iblk m c 0 t) (iblk m c 1 t₀) (iblk m c 2 t₀) Y7 h7' _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H7]; · iexact H7
  isplitl [H8]; · iexact H8
  iintro ⟨H0, H1, H2, H3, H4, H5, H7, H8⟩
  isplitl [H7 H8 Hr]
  · isplitl [H7 H8]
    · isplitl [H7]
      · iexists _
        isplitr
        swap; · iexact H7
        ipureintro; exact fun _ => rfl
      · iexact H8
    · iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every weakly fair execution of the launch terminates, with every array of the pipeline at what the proof data
    compute, every other buffer as the host operations leave it, and every semaphore counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The launch terminates, its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.Kernel.Body
-- ==== Proof.Scalar.lean ====
module

public import Idealize.ShloMosaic.PureOps.Ideal.Laws

@[expose] public section

noncomputable section

namespace Cert.Scalar

open Idealize.ShloMosaic

/-- The word whose exponent field is `k` and whose other bits are zero. -/
def word (k : ℕ) : BitVec 32 := BitVec.ofNat 32 k <<< 23

/-- The value of that word. -/
def val (k : ℕ) : EReal := Ideal.ofBits .f32 (word k)

theorem word_parts : ∀ k : Fin 256, ((word k.val).extractLsb' 31 1 == 1#1) = false
    ∧ ((word k.val).extractLsb' 23 8).toNat = k.val ∧ ((word k.val).extractLsb' 0 23).toNat = 0 := by
  decide

theorem val_zero : val 0 = 0 := Ideal.ofBits_zero_f32

theorem ieee_mid (b : BitVec 32) (k : ℕ) (hs : (b.extractLsb' 31 1 == 1#1) = false) (he : (b.extractLsb' 23 8).toNat = k)
    (hf : (b.extractLsb' 0 23).toNat = 0) (h0 : 0 < k) (h : k < 255) :
    Ideal.ieee 8 23 b = (((2 : ℝ) ^ ((k : ℤ) - 127) : ℝ) : EReal) := by
  unfold Ideal.ieee
  have hs' : (b.extractLsb' (8 + 23) 1 == 1#1) = false := hs
  simp only [hs', he, hf]
  rw [if_neg (by norm_num; omega), if_neg (by omega), EReal.coe_eq_coe_iff]
  have h2 : (2 : ℝ) ≠ 0 := two_ne_zero
  have e : ((k : ℤ) - 127) = 23 + ((k : ℤ) - (2 ^ (8 - 1) - 1) - (23 : ℕ)) := by norm_num
  rw [e, zpow_add₀ h2]
  norm_num

/-- An exponent field strictly between the extremes is a power of two. -/
theorem val_mid (k : ℕ) (h0 : 0 < k) (h : k < 255) : val k = (((2 : ℝ) ^ ((k : ℤ) - 127) : ℝ) : EReal) :=
  have hp := word_parts ⟨k, by omega⟩
  ieee_mid (word k) k hp.1 hp.2.1 hp.2.2 h0 h

theorem ieee_top (b : BitVec 32) (hs : (b.extractLsb' 31 1 == 1#1) = false) (he : (b.extractLsb' 23 8).toNat = 255)
    (hf : (b.extractLsb' 0 23).toNat = 0) : Ideal.ieee 8 23 b = ⊤ := by
  unfold Ideal.ieee
  have hs' : (b.extractLsb' (8 + 23) 1 == 1#1) = false := hs
  simp only [hs', he, hf]
  simp

theorem val_top : val 255 = ⊤ :=
  have hp := word_parts ⟨255, by omega⟩
  ieee_top (word 255) hp.1 hp.2.1 hp.2.2

/-- One step of the search: the candidate `e` raised by `k` if `v` reaches its value. -/
def sstep (v : EReal) (e k : BitVec 32) : BitVec 32 :=
  if Ideal.cmp .oge v (Ideal.ofBits .f32 ((e + k) <<< 23)) = 1#1 then e + k else e

/-- The search. -/
def sfield (v : EReal) : BitVec 32 :=
  sstep v (sstep v (sstep v (sstep v (sstep v (sstep v (sstep v (sstep v 0#32 128#32) 64#32) 32#32) 16#32) 8#32) 4#32) 2#32) 1#32

/-- What the search keeps: the candidate is reached, and the one `j` above it is not or does not exist. -/
def Found (v : EReal) (e : BitVec 32) (n j : ℕ) : Prop :=
  e = BitVec.ofNat 32 n ∧ n + j ≤ 256 ∧ val n ≤ v ∧ (n + j = 256 ∨ v < val (n + j))

theorem cmp_oge (x y : EReal) : Ideal.cmp .oge x y = 1#1 ↔ y ≤ x := by
  unfold Ideal.cmp
  by_cases h : y ≤ x <;> simp [h]

theorem cmp_olt (x y : EReal) : Ideal.cmp .olt x y = 1#1 ↔ x < y := by
  unfold Ideal.cmp
  by_cases h : x < y <;> simp [h]

theorem found_step (v : EReal) (e : BitVec 32) (j : ℕ) (hj : 0 < j) (n : ℕ) (h : Found v e n (2 * j)) :
    ∃ n', Found v (sstep v e (BitVec.ofNat 32 j)) n' j := by
  obtain ⟨rfl, hle, hv, hu⟩ := h
  have he : BitVec.ofNat 32 n + BitVec.ofNat 32 j = BitVec.ofNat 32 (n + j) := by
    rw [BitVec.ofNat_add]
  unfold sstep
  rw [he, show Ideal.ofBits .f32 (BitVec.ofNat 32 (n + j) <<< 23) = val (n + j) from rfl]
  by_cases hc : val (n + j) ≤ v
  · rw [if_pos ((cmp_oge _ _).mpr hc)]
    exact ⟨n + j, rfl, by omega, hc, by rwa [show n + j + j = n + 2 * j by omega]⟩
  · rw [if_neg (fun h => hc ((cmp_oge _ _).mp h))]
    exact ⟨n, rfl, by omega, hv, .inr (lt_of_not_ge hc)⟩

/-- The search finds the greatest exponent field whose value is reached. -/
theorem sfield_spec (v : EReal) (hv : 0 ≤ v) : ∃ n, Found v (sfield v) n 1 := by
  have h0 : Found v 0#32 0 (2 * 128) := ⟨rfl, by omega, by rw [val_zero]; exact hv, .inl rfl⟩
  obtain ⟨n1, h1⟩ := found_step v _ 128 (by omega) _ h0
  obtain ⟨n2, h2⟩ := found_step v _ 64 (by omega) _ h1
  obtain ⟨n3, h3⟩ := found_step v _ 32 (by omega) _ h2
  obtain ⟨n4, h4⟩ := found_step v _ 16 (by omega) _ h3
  obtain ⟨n5, h5⟩ := found_step v _ 8 (by omega) _ h4
  obtain ⟨n6, h6⟩ := found_step v _ 4 (by omega) _ h5
  obtain ⟨n7, h7⟩ := found_step v _ 2 (by omega) _ h6
  obtain ⟨n8, h8⟩ := found_step v _ 1 (by omega) _ h7
  exact ⟨n8, h8⟩

/-- The kernel's exponent as an integer word. -/
def sexpo (v : EReal) : BitVec 32 :=
  if (IntOp.cmpi .eq (sfield v) 0#32 ||| IntOp.cmpi .eq (sfield v) 255#32) = 1#1 then 0#32 else sfield v - 126#32

/-- The kernel's scale. -/
def sscale (v : EReal) : EReal := Ideal.ofBits .f32 ((sexpo v + 127#32) <<< 23)

/-- The kernel's inverse scale. -/
def sinv (v : EReal) : EReal := Ideal.ofBits .f32 ((127#32 - sexpo v) <<< 23)

/-- The reference's exponent. -/
def rexpo (v : EReal) : EReal :=
  if (Ideal.cmp .oge v (Ideal.ofBits .f32 0x00800000#32) &&& Ideal.cmp .olt v (Ideal.ofBits .f32 0x7F800000#32)) = 1#1
  then Ideal.liftRound Int.floor (Ideal.div (Ideal.log v) (Ideal.log (Ideal.ofBits .f32 0x40000000#32))) + Ideal.ofBits .f32 0x3F800000#32
  else Ideal.ofBits .f32 0x00000000#32

theorem word_up : ∀ n : Fin 253, 0 < n.val → ((BitVec.ofNat 32 n.val - 126#32) + 127#32) <<< 23 = word (n.val + 1)
    ∧ (127#32 - (BitVec.ofNat 32 n.val - 126#32)) <<< 23 = word (253 - n.val)
    ∧ (IntOp.cmpi .eq (BitVec.ofNat 32 n.val) 0#32 ||| IntOp.cmpi .eq (BitVec.ofNat 32 n.val) 255#32) ≠ 1#1 := by
  decide

theorem ofBits_min : Ideal.ofBits .f32 0x00800000#32 = val 1 := rfl
theorem ofBits_inf : Ideal.ofBits .f32 0x7F800000#32 = ⊤ := val_top
theorem ofBits_one : Ideal.ofBits .f32 0x3F800000#32 = ((1 : ℝ) : EReal) := by
  rw [show Ideal.ofBits .f32 0x3F800000#32 = val 127 from rfl, val_mid 127 (by omega) (by omega)]; norm_num
theorem ofBits_two : Ideal.ofBits .f32 0x40000000#32 = ((2 : ℝ) : EReal) := by
  rw [show Ideal.ofBits .f32 0x40000000#32 = val 128 from rfl, val_mid 128 (by omega) (by omega)]; norm_num

theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The exponent of the reference, where it is not zero. -/
theorem rexpo_mid (r : ℝ) (k : ℤ) (h1 : (2 : ℝ) ^ k ≤ r) (h2 : r < (2 : ℝ) ^ (k + 1)) (hmin : val 1 ≤ (r : EReal)) :
    rexpo (r : EReal) = (((k + 1 : ℤ) : ℝ) : EReal) := by
  have hr : 0 < r := lt_of_lt_of_le (zpow_pos two_pos k) h1
  unfold rexpo
  rw [ofBits_min, ofBits_inf, ofBits_two, ofBits_one]
  rw [(cmp_oge _ _).mpr hmin, (cmp_olt _ _).mpr (EReal.coe_lt_top r), if_pos (by decide)]
  rw [show Ideal.log ((r : ℝ) : EReal) = ((Real.log r : ℝ) : EReal) from if_neg (not_le.mpr hr),
    show Ideal.log ((2 : ℝ) : EReal) = ((Real.log 2 : ℝ) : EReal) from if_neg (by norm_num),
    Ideal.div_coe (Real.log_pos one_lt_two).ne', ← EReal.coe_mul]
  show ((⌊Real.log r * (1 / Real.log 2)⌋ : ℝ) : EReal) + ((1 : ℝ) : EReal) = _
  have hl : ⌊Real.log r * (1 / Real.log 2)⌋ = k := by
    have hl2 : 0 < Real.log 2 := Real.log_pos one_lt_two
    rw [mul_one_div, Int.floor_eq_iff]
    constructor
    · rw [le_div_iff₀ hl2, ← Real.log_zpow]
      exact Real.log_le_log (zpow_pos two_pos k) h1
    · rw [div_lt_iff₀ hl2]
      have := Real.log_lt_log hr h2
      rw [Real.log_zpow] at this
      push_cast at this
      exact this
  rw [hl, ← EReal.coe_add]
  push_cast
  rfl

theorem rexpo_low (v : EReal) (h : v < val 1) : rexpo v = 0 := by
  unfold rexpo
  rw [ofBits_min, if_neg]
  · exact Ideal.ofBits_zero_f32
  · have : Ideal.cmp .oge v (val 1) = 0#1 := by
      unfold Ideal.cmp; simp [not_le.mpr h]
    rw [this]; simp

theorem rexpo_top : rexpo ⊤ = 0 := by
  unfold rexpo
  rw [ofBits_inf, if_neg]
  · exact Ideal.ofBits_zero_f32
  · have : Ideal.cmp .olt ⊤ ⊤ = 0#1 := by
      unfold Ideal.cmp; simp
    rw [this]; simp

theorem exp2_zero : Ideal.exp2 0 = ((1 : ℝ) : EReal) := by
  have := exp2_int 0
  simpa using this

theorem val_127 : val 127 = ((1 : ℝ) : EReal) := ofBits_one

/-- Below `2^126`, and at infinity, the kernel's scales are the reference's. -/
theorem scales_eq (v : EReal) (h0 : 0 ≤ v) (hv : v < val 253 ∨ v = ⊤) :
    sscale v = Ideal.exp2 (rexpo v) ∧ sinv v = Ideal.exp2 (Ideal.ofBits .f32 0x00000000#32 - rexpo v) := by
  rw [Ideal.ofBits_zero_f32]
  have zero_case : rexpo v = 0 → sexpo v = 0#32 → sscale v = Ideal.exp2 (rexpo v) ∧ sinv v = Ideal.exp2 (0 - rexpo v) := by
    intro hr hs
    unfold sscale sinv
    rw [hr, hs, sub_zero, exp2_zero, ← val_127]
    exact ⟨rfl, rfl⟩
  obtain ⟨n, he, hle, hlo, hup⟩ := sfield_spec v h0
  rcases hv with hv | rfl
  · have hn : n < 253 := by
      by_contra hc
      have : val 253 ≤ val n := by
        rw [val_mid 253 (by omega) (by omega)]
        rcases Nat.lt_or_ge n 255 with h | h
        · rw [val_mid n (by omega) h]
          exact EReal.coe_le_coe_iff.mpr (zpow_le_zpow_right₀ one_le_two (by omega))
        · rw [show n = 255 by omega, val_top]; exact le_top
      exact absurd (lt_of_le_of_lt (this.trans hlo) hv) (lt_irrefl _)
    have hup' : v < val (n + 1) := hup.resolve_left (by omega)
    rcases Nat.eq_zero_or_pos n with rfl | hpos
    · refine zero_case (rexpo_low v hup') ?_
      unfold sexpo; rw [he]; decide
    · obtain ⟨hw1, hw2, hw3⟩ := word_up ⟨n, hn⟩ hpos
      simp only at hw1 hw2 hw3
      have hs : sexpo v = BitVec.ofNat 32 n - 126#32 := by
        unfold sexpo; rw [he, if_neg hw3]
      have hvtop : v ≠ ⊤ := (hup'.trans_le le_top).ne
      have hvbot : v ≠ ⊥ := (EReal.bot_lt_zero.trans_le h0).ne'
      obtain ⟨r, rfl⟩ : ∃ r : ℝ, v = r := ⟨v.toReal, (EReal.coe_toReal hvtop hvbot).symm⟩
      have hlo' := hlo
      rw [val_mid n hpos (by omega), EReal.coe_le_coe_iff] at hlo
      rw [val_mid (n + 1) (by omega) (by omega), EReal.coe_lt_coe_iff] at hup'
      have h1n : val 1 ≤ ((r : ℝ) : EReal) := by
        refine le_trans ?_ hlo'
        rw [val_mid 1 (by omega) (by omega), val_mid n hpos (by omega)]
        exact EReal.coe_le_coe_iff.mpr (zpow_le_zpow_right₀ one_le_two (by omega))
      have hre := rexpo_mid r ((n : ℤ) - 127) hlo (by rw [show (n : ℤ) - 127 + 1 = ((n + 1 : ℕ) : ℤ) - 127 by push_cast; ring]; exact hup') h1n
      unfold sscale sinv
      rw [hs, hw1, hw2, hre]
      constructor
      · rw [exp2_int]
        show val (n + 1) = _
        rw [val_mid (n + 1) (by omega) (by omega)]
        congr 2; push_cast; ring
      · rw [show (0 : EReal) - (((((n : ℤ) - 127 + 1 : ℤ) : ℝ) : ℝ) : EReal) = (((-((n : ℤ) - 127 + 1) : ℤ) : ℝ) : EReal) by
          rw [zero_sub, ← EReal.coe_neg]; push_cast; rfl, exp2_int]
        show val (253 - n) = _
        rw [val_mid (253 - n) (by omega) (by omega)]
        congr 2; omega
  · refine zero_case rexpo_top ?_
    have hn : n = 255 := by
      by_contra hc
      rcases hup with h | h
      · omega
      · exact absurd h (not_lt.mpr le_top)
    unfold sexpo; rw [he, hn]; decide

end Cert.Scalar

end
-- ==== Proof.KernelValue.lean ====
module

public import proofs.«01_k».proof.Proof.Steps
public import proofs.«01_k».proof.Proof.Scalar
public import Idealize.ShloMosaic.Lib.ValueIdx
public import Idealize.ShloMosaic.Lib.Pipeline.Value

@[expose] public section

noncomputable section

namespace Cert.Kernel.Body

open Idealize.ShloMosaic Idealize.ShloMosaic.ValueIdx Idealize.SL.Sem Cert.Kernel.Gen

/-- A group's greatest magnitude over 448. -/
def vof (f : Fin 128 → EReal) : EReal :=
  (Finset.univ.fold max (Ideal.ofBits .f32 0xFF800000#32) fun l => max (f l) (-f l)) * Ideal.ofBits .f32 0x3B124925#32

/-- The kernel reads a row's greatest magnitude over 448. -/
theorem gv_apply (x : Vec Ideal S512x128 .bf16) (i : Fin 512) :
    gv (F := Ideal) x (ix2 i 0) = vof fun l => x (ix2 i l) := by
  unfold gv
  show shapeCast S512x1 _ _ (ix2 i 0) * _ = _
  rw [shapeCast_apply _ _ (ix2 i 0) (ix1 i) (by rw [Shape.rowMajor_val_one, Shape.rowMajor_val_two]; show i.val = i.val * 1 + 0; omega)]
  refine (congrArg (· * Ideal.ofBits .f32 0x3B124925#32) (Ideal.multiReduction_maximumf_single (absf (gx x)) 0xFF800000#32
    reduces_S512x128_S512 (.inl rfl) rfl (ix1 i))).trans ?_
  unfold vof
  refine congrArg (· * Ideal.ofBits .f32 0x3B124925#32) (Finset.fold_congr fun l _ => ?_)
  have h : reduces_S512x128_S512.lift (ix1 i) l = ix2 i l := by
    rw [eq_ix2 (reduces_S512x128_S512.lift (ix1 i) l)]; rfl
  show max (gx x _) (-(gx x _)) = _
  unfold gx
  rw [shapeCast_self]
  show max (x _) (-(x _)) = _
  rw [h]
  rfl

theorem fstep_apply (v : FVec Ideal S512x1 .f32) (e : IVec S512x1 32) (k : BitVec 32) (j : S512x1.Idx) :
    fstep v e k j = Scalar.sstep (v j) (e j) k := rfl

theorem field_apply (v : FVec Ideal S512x1 .f32) (j : S512x1.Idx) : field v j = Scalar.sfield (v j) := by
  unfold field Scalar.sfield
  simp only [fstep_apply]
  rfl

theorem expo_apply (v : FVec Ideal S512x1 .f32) (j : S512x1.Idx) : expo v j = Scalar.sexpo (v j) := by
  unfold expo Scalar.sexpo
  rw [← field_apply]
  generalize field v = f
  rfl

theorem gscale_apply (x : Vec Ideal S512x128 .bf16) (j : S512x1.Idx) : gscale (F := Ideal) x j = Scalar.sscale (gv x j) := by
  unfold gscale Scalar.sscale
  rw [← expo_apply]
  generalize expo (gv x) = f
  rfl

theorem ginv_apply (x : Vec Ideal S512x128 .bf16) (j : S512x1.Idx) : ginv (F := Ideal) x j = Scalar.sinv (gv x j) := by
  unfold ginv Scalar.sinv
  rw [← expo_apply]
  generalize expo (gv x) = f
  rfl

/-- A code, from its entry and the row's inverse scale. -/
def clip (a : EReal) : EReal := min (Ideal.ofBits .f32 0x43E00000#32) (max (Ideal.ofBits .f32 0xC3E00000#32) a)

theorem gcodes_apply (x : Vec Ideal S512x128 .bf16) (i : Fin 512) (l : Fin 128) :
    gcodes (F := Ideal) x (ix2 i l) = clip (x (ix2 i l) * Scalar.sinv (vof fun l => x (ix2 i l))) := by
  have h : broadcastTo S512x128 (ginv (F := Ideal) x) broadcasts_S512x1_S512x128 (ix2 i l) = ginv x (ix2 i 0) := by
    unfold broadcastTo
    congr 1
    funext a
    match a with | ⟨0, _⟩ => rfl | ⟨1, _⟩ => rfl
  show clip (gx x _ * broadcastTo S512x128 (ginv (F := Ideal) x) broadcasts_S512x1_S512x128 (ix2 i l)) = _
  rw [h, ginv_apply, gv_apply]
  unfold gx
  rw [shapeCast_self]
  rfl

theorem gxw_apply (x : Vec Ideal S512x128 .bf16) (i : Fin 512) (l : Fin 128) :
    gxw (F := Ideal) x (ix2 i l)
      = clip (x (ix2 i l) * Scalar.sinv (vof fun l => x (ix2 i l))) * Scalar.sscale (vof fun l => x (ix2 i l)) := by
  have h : broadcastTo S512x128 (gscale (F := Ideal) x) broadcasts_S512x1_S512x128 (ix2 i l) = gscale x (ix2 i 0) := by
    unfold broadcastTo
    congr 1
    funext a
    match a with | ⟨0, _⟩ => rfl | ⟨1, _⟩ => rfl
  unfold gxw
  rw [shapeCast_self]
  show gcodes x (ix2 i l) * broadcastTo S512x128 (gscale (F := Ideal) x) broadcasts_S512x1_S512x128 (ix2 i l) = _
  rw [h, gscale_apply, gv_apply, gcodes_apply]

theorem gcodes_at (x : Vec Ideal S512x128 .bf16) (i : Fin 512) (l : Fin 128) (f : Fin 128 → EReal) (hf : ∀ l, x (ix2 i l) = f l) :
    gcodes (F := Ideal) x (ix2 i l) = clip (f l * Scalar.sinv (vof f)) := by
  obtain rfl : (fun l => x (ix2 i l)) = f := funext hf
  exact gcodes_apply x i l

theorem gxw_at (x : Vec Ideal S512x128 .bf16) (i : Fin 512) (l : Fin 128) (f : Fin 128 → EReal) (hf : ∀ l, x (ix2 i l) = f l) :
    gxw (F := Ideal) x (ix2 i l) = clip (f l * Scalar.sinv (vof f)) * Scalar.sscale (vof f) := by
  obtain rfl : (fun l => x (ix2 i l)) = f := funext hf
  exact gxw_apply x i l

theorem gscale_at (x : Vec Ideal S512x128 .bf16) (i : Fin 512) (f : Fin 128 → EReal) (hf : ∀ l, x (ix2 i l) = f l) :
    gscale (F := Ideal) x (ix2 i 0) = Scalar.sscale (vof f) := by
  obtain rfl : (fun l => x (ix2 i l)) = f := funext hf
  rw [gscale_apply, gv_apply]

/-- Group `g` of row `i` of a block. -/
def grp (X : Vec Ideal S512x2816 .bf16) (i : Fin 512) (g : Fin 22) : Fin 128 → EReal :=
  fun l => X (ix2 i ⟨g.val * 128 + l.val, by omega⟩)

theorem gwin_apply (X : Vec Ideal S512x2816 .bf16) (g : Fin 22) (i : Fin 512) (l : Fin 128) :
    gwin X g.val g.isLt (ix2 i l) = grp X i g l := by
  unfold grp
  show X _ = X _
  congr 1
  funext a
  apply Fin.ext
  match a with
  | ⟨0, _⟩ => show 0 + 1 * i.val = i.val; omega
  | ⟨1, _⟩ => show g.val * 128 + 1 * l.val = g.val * 128 + l.val; omega

/-- Row `i`, column `l` of group `g`. -/
abbrev col (g : Fin 22) (l : Fin 128) : Fin 2816 := ⟨g.val * 128 + l.val, by omega⟩

theorem unitLocal_col (g : Fin 22) (i : Fin 512) (l : Fin 128) (h) :
    Rect.unitLocal (s := S512x2816) (off := ![0, g.val * 128]) (size := S512x128.size) (ix2 i (col g l)) h = ix2 i l := by
  funext a
  apply Fin.ext
  match a with
  | ⟨0, _⟩ => show i.val - 0 = i.val; omega
  | ⟨1, _⟩ => show g.val * 128 + l.val - g.val * 128 = l.val; omega

theorem in_col (g : Fin 22) (i : Fin 512) (l : Fin 128) :
    ∀ a, (![0, g.val * 128] : Fin 2 → ℕ) a ≤ ((ix2 i (col g l) : S512x2816.Idx) a).val
      ∧ ((ix2 i (col g l) : S512x2816.Idx) a).val < (![0, g.val * 128] : Fin 2 → ℕ) a + S512x128.size a :=
  mem_g g.val (ix2 i (col g l)) (by show (g.val * 128 + l.val) / 128 = g.val; omega)

/-- A block's codes at a place. -/
theorem cB_apply (X : Vec Ideal S512x2816 .bf16) (g : Fin 22) (i : Fin 512) (l : Fin 128) :
    cB (F := Ideal) X (ix2 i (col g l)) = clip (grp X i g l * Scalar.sinv (vof (grp X i g))) := by
  rw [← cB_of_mem X g.val g.isLt _ (in_col g i l), unitLocal_col]
  exact gcodes_at _ i l _ (gwin_apply X g i)

/-- A block's dequantised activations at a place. -/
theorem xB_apply (X : Vec Ideal S512x2816 .bf16) (g : Fin 22) (i : Fin 512) (l : Fin 128) :
    xB (F := Ideal) X (ix2 i (col g l))
      = clip (grp X i g l * Scalar.sinv (vof (grp X i g))) * Scalar.sscale (vof (grp X i g)) := by
  rw [← xB_of_mem X g.val g.isLt _ (in_col g i l), unitLocal_col]
  exact gxw_at _ i l _ (gwin_apply X g i)

/-- A block's scales at a place. -/
theorem sB_apply (X : Vec Ideal S512x2816 .bf16) (g : Fin 22) (i : Fin 512) :
    sB (F := Ideal) X (ix2 i g) = Scalar.sscale (vof (grp X i g)) := by
  rw [← sB_of_mem X g.val g.isLt _ (mem_x g.val (ix2 i g) rfl)]
  have h : Rect.unitLocal (s := S512x22) (off := ![0, g.val]) (size := S512x1.size) (ix2 i g) (mem_x g.val (ix2 i g) rfl)
      = (ix2 i 0 : S512x1.Idx) := by
    funext a
    apply Fin.ext
    match a with
    | ⟨0, _⟩ => show i.val - 0 = i.val; omega
    | ⟨1, _⟩ => show g.val - g.val = 0; omega
  rw [h]
  exact gscale_at _ i _ (gwin_apply X g i)

/-- A product at a place. -/
theorem oB_apply (XW : Vec Ideal S512x2816 .bf16) (WB : Vec Ideal S16x256x2816 .bf16) (i : Fin 512) (h : Fin 16) (o : Fin 256) :
    oB (F := Ideal) XW WB (ix3 i h o) = ∑ k : Fin 2816, XW (ix2 i k) * WB (ix3 h o k) := by
  unfold oB
  have hl : Rect.unitLocal (s := S512x16x256) (off := ![0, h.val, 0]) (size := S512x1x256.size) (ix3 i h o)
      (mem_o h.val (ix3 i h o) rfl) = (ix3 i 0 o : S512x1x256.Idx) := by
    funext a
    apply Fin.ext
    match a with
    | ⟨0, _⟩ => show i.val - 0 = i.val; omega
    | ⟨1, _⟩ => show h.val - h.val = 0; omega
    | ⟨2, _⟩ => show o.val - 0 = o.val; omega
  show prodh XW _ (Rect.unitLocal (s := S512x16x256) (off := ![0, h.val, 0]) (size := S512x1x256.size) (ix3 i h o)
      (mem_o h.val (ix3 i h o) rfl)) = _
  rw [hl]
  unfold prodh
  rw [shapeCast_apply _ _ (ix3 i 0 o) (ix2 i o) (by
    rw [Shape.rowMajor_val_two, Shape.rowMajor_val_three]; show i.val * 256 + o.val = (i.val * 1 + 0) * 256 + o.val; omega)]
  refine (Ideal.matmul_constant_zero_apply _ none _ _ _).trans ?_
  refine (Equiv.sum_comp (contrEquiv1 dot_S512x2816_S256x2816_S512x256_1_1_0_0_n_n 2816 rfl rfl).symm _).symm.trans ?_
  refine Finset.sum_congr rfl fun k _ => ?_
  have e1 : dot_S512x2816_S256x2816_S512x256_1_1_0_0_n_n.lhsIdx (ix2 i o)
      ((contrEquiv1 dot_S512x2816_S256x2816_S512x256_1_1_0_0_n_n 2816 rfl rfl).symm k) = ix2 i k := by
    funext a; apply Fin.ext; match a with | ⟨0, _⟩ => rfl | ⟨1, _⟩ => rfl
  have e2 : dot_S512x2816_S256x2816_S512x256_1_1_0_0_n_n.rhsIdx (ix2 i o)
      ((contrEquiv1 dot_S512x2816_S256x2816_S512x256_1_1_0_0_n_n 2816 rfl rfl).symm k) = ix2 o k := by
    funext a; apply Fin.ext; match a with | ⟨0, _⟩ => rfl | ⟨1, _⟩ => rfl
  rw [e1, e2]
  congr 1
  rw [shapeCast_apply _ _ (ix2 o k) (ix3 0 o k) (by
    rw [Shape.rowMajor_val_two, Shape.rowMajor_val_three]; show (0 * 256 + o.val) * 2816 + k.val = o.val * 2816 + k.val; omega)]
  show WB _ = WB _
  congr 1
  funext a
  apply Fin.ext
  match a with
  | ⟨0, _⟩ => show h.val + 1 * 0 = h.val; omega
  | ⟨1, _⟩ => show 0 + 1 * o.val = o.val; omega
  | ⟨2, _⟩ => show 0 + 1 * k.val = k.val; omega

theorem wtile_apply (s : Elt Ideal .f32) (v : Vec Ideal S1x128x128 .fp8e4m3) (a b : Fin 128) :
    wtile (F := Ideal) s v (ix3 0 a b) = (v (ix3 0 a b) : EReal) * (s : EReal) := by
  unfold wtile
  rw [shapeCast_apply _ _ (ix3 0 a b) (ix2 a b) (by
    rw [Shape.rowMajor_val_two, Shape.rowMajor_val_three]
    show a.val * 128 + b.val = (0 * 128 + a.val) * 128 + b.val; omega)]
  refine Eq.trans (b := (shapeCast S128x128 v shapeCasts_S1x128x128_S128x128 (ix2 a b) : EReal) * (s : EReal)) rfl ?_
  rw [shapeCast_apply _ _ (ix2 a b) (ix3 0 a b) (by
    rw [Shape.rowMajor_val_two, Shape.rowMajor_val_three]
    show (0 * 128 + a.val) * 128 + b.val = a.val * 128 + b.val; omega)]

/-- A dequantised weight at a place. -/
theorem wB_apply (W : Vec Ideal S16x256x2816 .fp8e4m3) (S : Vec Ideal S32x22 .f32) (h : Fin 16) (o : Fin 256) (k : Fin 2816) :
    wB (F := Ideal) W S (ix3 h o k)
      = W (ix3 h o k) * S (ix2 ⟨h.val * 2 + o.val / 128, by omega⟩ ⟨k.val / 128, by omega⟩) := by
  set i : S16x256x2816.Idx := ix3 h o k with hi
  have ht : tileOf i = h.val * 44 + o.val / 128 * 22 + k.val / 128 := rfl
  have ho := o.isLt
  have hk := k.isLt
  have hl : Rect.unitLocal (s := S16x256x2816) (off := woff (tileOf i)) (size := S1x128x128.size) i (mem_tile i)
      = (ix3 0 ⟨o.val % 128, by omega⟩ ⟨k.val % 128, by omega⟩ : S1x128x128.Idx) := by
    funext a
    apply Fin.ext
    match a with
    | ⟨0, _⟩ => show h.val - tileOf i / 44 = 0; omega
    | ⟨1, _⟩ => show o.val - tileOf i / 22 % 2 * 128 = o.val % 128; omega
    | ⟨2, _⟩ => show k.val - tileOf i % 22 * 128 = k.val % 128; omega
  unfold wB
  rw [hl, wtile_apply]
  congr 1
  · show W _ = W _
    congr 1
    funext a
    apply Fin.ext
    match a with
    | ⟨0, _⟩ => show tileOf i / 44 + 1 * 0 = h.val; omega
    | ⟨1, _⟩ => show tileOf i / 22 % 2 * 128 + 1 * (o.val % 128) = o.val; omega
    | ⟨2, _⟩ => show tileOf i % 22 * 128 + 1 * (k.val % 128) = k.val; omega
  · show S _ = S _
    congr 1
    funext a
    apply Fin.ext
    match a with
    | ⟨0, _⟩ => show tileOf i / 22 + 1 * 0 = h.val * 2 + o.val / 128; omega
    | ⟨1, _⟩ => show tileOf i % 22 + 1 * 0 = k.val / 128; omega

end Cert.Kernel.Body

end
-- ==== Proof.RunValue.lean ====
module

public import proofs.«01_k».proof.Proof.Run
public import proofs.«01_k».proof.Proof.KernelValue
public import Idealize.ShloMosaic.Lib.Claim
public import Idealize.ShloMosaic.Lib.Pipeline.ValueKit

@[expose] public section

noncomputable section

namespace Cert.Kernel.Body

open Idealize.ShloMosaic hiding ix2 ix3 ix4 eq_ix2 eq_ix3 eq_ix4
open Idealize.ShloMosaic.ValueIdx Idealize.ShloMosaic.TcCoe Idealize.SL.Sem Cert.Kernel.Gen

variable (m : (ℓ : Loc nD τ sig) → Buf (Elt Ideal) ℓ) (ρ : Dev nD → PrngReg)

/-- The activations as the region finds them, one row after another. -/
abbrev X2 (c : Dev nD) : Vec Ideal S12288x2816 .bf16 := V m c main_v0

/-- The weight scales as the region finds them. -/
abbrev S2 (c : Dev nD) : Vec Ideal S32x22 .f32 := V m c main_v1

/-- The weight codes as the region finds them. -/
abbrev W2 (c : Dev nD) : Vec Ideal S16x256x2816 .fp8e4m3 := V m c main_arg1

/-- Group `g` of row `r` of all the activations. -/
def rgrp (X : Vec Ideal S12288x2816 .bf16) (r : Fin 12288) (g : Fin 22) : Fin 128 → EReal := fun l => X (ix2 r (col g l))

/-- Row `i` of the block at point `t`. -/
abbrev brow (t : Fin cfg0.N) (i : Fin 512) : Fin 12288 := ⟨t.val * 512 + i.val, by have : t.val < 24 := t.isLt; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

/-- The activations' block at a point is 512 of their rows. -/
theorem iblk0_apply (c : Dev nD) (t : Fin cfg0.N) (i : Fin 512) (k : Fin 2816) :
    iblk m c 0 t (ix2 i k : S512x2816.Idx) = X2 m c (ix2 (brow t i) k) := by
  obtain ⟨e0, e1⟩ := idx0 t
  show V m c main_v0 (((cfg0.win 0).blk t).view.emb (ix2 i k : S512x2816.Idx)) = V m c main_v0 (ix2 (brow t i) k)
  congr 1
  funext a; apply Fin.ext
  match a with
  | ⟨0, _⟩ => show win0_0.index t (0 : Fin 2) * 512 + 1 * i.val = t.val * 512 + i.val; omega
  | ⟨1, _⟩ => show win0_0.index t (1 : Fin 2) * 2816 + 1 * k.val = k.val; omega

/-- The weights' block is all the weights. -/
theorem iblk1_eq (c : Dev nD) (t : Fin cfg0.N) : iblk m c 1 t = W2 m c := by
  obtain ⟨e0, e1, e2⟩ := idx1 t
  funext j
  show V m c main_arg1 (((cfg0.win 1).blk t).view.emb j) = V m c main_arg1 j
  congr 1
  funext a; apply Fin.ext
  match a with
  | ⟨0, _⟩ => show win0_1.index t (0 : Fin 3) * 16 + 1 * (j 0).val = (j 0).val; omega
  | ⟨1, _⟩ => show win0_1.index t (1 : Fin 3) * 256 + 1 * (j 1).val = (j 1).val; omega
  | ⟨2, _⟩ => show win0_1.index t (2 : Fin 3) * 2816 + 1 * (j 2).val = (j 2).val; omega

/-- The weight scales' block is all the weight scales. -/
theorem iblk2_eq (c : Dev nD) (t : Fin cfg0.N) : iblk m c 2 t = S2 m c := by
  obtain ⟨e0, e1⟩ := idx2 t
  funext j
  show V m c main_v1 (((cfg0.win 2).blk t).view.emb j) = V m c main_v1 j
  congr 1
  funext a; apply Fin.ext
  match a with
  | ⟨0, _⟩ => show win0_2.index t (0 : Fin 2) * 32 + 1 * (j 0).val = (j 0).val; omega
  | ⟨1, _⟩ => show win0_2.index t (1 : Fin 2) * 22 + 1 * (j 1).val = (j 1).val; omega

theorem grp_iblk (c : Dev nD) (t : Fin cfg0.N) (i : Fin 512) (g : Fin 22) :
    grp (iblk m c 0 t) i g = rgrp (X2 m c) (brow t i) g := by
  funext l
  unfold grp rgrp
  rw [iblk0_apply]

/-- The group a column is in, and its place there. -/
abbrev gof (k : Fin 2816) : Fin 22 := ⟨k.val / 128, by omega⟩
abbrev lof (k : Fin 2816) : Fin 128 := ⟨k.val % 128, by omega⟩

theorem col_of (k : Fin 2816) : col (gof k) (lof k) = k := Fin.ext (by show k.val / 128 * 128 + k.val % 128 = k.val; omega)

/-- The codes of all rows. -/
def codesOf (X : Vec Ideal S12288x2816 .bf16) : Vec Ideal S12288x2816 .fp8e4m3 := fun j =>
  clip (rgrp X (j 0) (gof (j 1)) (lof (j 1)) * Scalar.sinv (vof (rgrp X (j 0) (gof (j 1)))))

/-- The scales of all rows. -/
def scalesOf (X : Vec Ideal S12288x2816 .bf16) : Vec Ideal S12288x22 .f32 := fun j =>
  Scalar.sscale (vof (rgrp X (j 0) (j 1)))

/-- The dequantised activation of row `r`, column `k`. -/
def deq (X : Vec Ideal S12288x2816 .bf16) (r : Fin 12288) (k : Fin 2816) : EReal :=
  clip (rgrp X r (gof k) (lof k) * Scalar.sinv (vof (rgrp X r (gof k)))) * Scalar.sscale (vof (rgrp X r (gof k)))

/-- The dequantised weight of head `h`, output `o`, column `k`. -/
def wdeq (W : Vec Ideal S16x256x2816 .fp8e4m3) (S : Vec Ideal S32x22 .f32) (h : Fin 16) (o : Fin 256) (k : Fin 2816) : EReal :=
  W (ix3 h o k) * S (ix2 ⟨h.val * 2 + o.val / 128, by omega⟩ ⟨k.val / 128, by omega⟩)

/-- The products of all rows. -/
def outOf (X : Vec Ideal S12288x2816 .bf16) (W : Vec Ideal S16x256x2816 .fp8e4m3) (S : Vec Ideal S32x22 .f32) :
    Vec Ideal S12288x16x256 .bf16 := fun j => ∑ k : Fin 2816, deq X (j 0) k * wdeq W S (j 1) (j 2) k

theorem emb3 (t : Fin cfg0.N) (i : Fin 512) (h : Fin 16) (o : Fin 256) :
    ((cfg0.win 3).blk t).view.emb (ix3 i h o : S512x16x256.Idx) = (ix3 (brow t i) h o : S12288x16x256.Idx) := by
  obtain ⟨e0, e1, e2⟩ := idx3 t
  funext a; apply Fin.ext
  match a with
  | ⟨0, _⟩ => show win0_3.index t (0 : Fin 3) * 512 + 1 * i.val = t.val * 512 + i.val; omega
  | ⟨1, _⟩ => show win0_3.index t (1 : Fin 3) * 16 + 1 * h.val = h.val; omega
  | ⟨2, _⟩ => show win0_3.index t (2 : Fin 3) * 256 + 1 * o.val = o.val; omega

theorem emb4 (t : Fin cfg0.N) (i : Fin 512) (k : Fin 2816) :
    ((cfg0.win 4).blk t).view.emb (ix2 i k : S512x2816.Idx) = (ix2 (brow t i) k : S12288x2816.Idx) := by
  obtain ⟨e0, e1⟩ := idx4 t
  funext a; apply Fin.ext
  match a with
  | ⟨0, _⟩ => show win0_4.index t (0 : Fin 2) * 512 + 1 * i.val = t.val * 512 + i.val; omega
  | ⟨1, _⟩ => show win0_4.index t (1 : Fin 2) * 2816 + 1 * k.val = k.val; omega

theorem emb5 (t : Fin cfg0.N) (i : Fin 512) (g : Fin 22) :
    ((cfg0.win 5).blk t).view.emb (ix2 i g : S512x22.Idx) = (ix2 (brow t i) g : S12288x22.Idx) := by
  obtain ⟨e0, e1⟩ := idx5 t
  funext a; apply Fin.ext
  match a with
  | ⟨0, _⟩ => show win0_5.index t (0 : Fin 2) * 512 + 1 * i.val = t.val * 512 + i.val; omega
  | ⟨1, _⟩ => show win0_5.index t (1 : Fin 2) * 22 + 1 * g.val = g.val; omega

/-- The codes a point computes are its rows of all the codes. -/
theorem codes_blk (c : Dev nD) (t : Fin cfg0.N) (i : Fin 512) (k : Fin 2816) :
    cB (F := Ideal) (iblk m c 0 t) (ix2 i k) = codesOf (X2 m c) (ix2 (brow t i) k) := by
  have h := cB_apply (iblk m c 0 t) (gof k) i (lof k)
  rw [col_of, grp_iblk] at h
  exact h

/-- The dequantised activations a point computes are its rows of all of them. -/
theorem deq_blk (c : Dev nD) (t : Fin cfg0.N) (i : Fin 512) (k : Fin 2816) :
    xB (F := Ideal) (iblk m c 0 t) (ix2 i k) = deq (X2 m c) (brow t i) k := by
  have h := xB_apply (iblk m c 0 t) (gof k) i (lof k)
  rw [col_of, grp_iblk] at h
  exact h

/-- The scales a point computes are its rows of all the scales. -/
theorem scales_blk (c : Dev nD) (t : Fin cfg0.N) (i : Fin 512) (g : Fin 22) :
    sB (F := Ideal) (iblk m c 0 t) (ix2 i g) = scalesOf (X2 m c) (ix2 (brow t i) g) := by
  have h := sB_apply (iblk m c 0 t) g i
  rw [grp_iblk] at h
  exact h

/-- The dequantised weights a run computes, at a place. -/
theorem wbv_apply (c : Dev nD) (h : Fin 16) (o : Fin 256) (k : Fin 2816) :
    wbv (F := Ideal) m c (ix3 h o k) = wdeq (W2 m c) (S2 m c) h o k := by
  have e := wB_apply (iblk m c 1 t₀) (iblk m c 2 t₀) h o k
  rw [iblk1_eq, iblk2_eq] at e
  unfold wbv
  rw [iblk1_eq, iblk2_eq]
  exact e

/-- The products a point computes are its rows of all the products. -/
theorem out_blk (c : Dev nD) (t : Fin cfg0.N) (i : Fin 512) (h : Fin 16) (o : Fin 256) :
    oB (F := Ideal) (xB (F := Ideal) (iblk m c 0 t)) (wbv m c) (ix3 i h o)
      = outOf (X2 m c) (W2 m c) (S2 m c) (ix3 (brow t i) h o) := by
  rw [oB_apply]
  show _ = ∑ k : Fin 2816, deq (X2 m c) (brow t i) k * wdeq (W2 m c) (S2 m c) h o k
  refine Finset.sum_congr rfl fun k _ => ?_
  rw [deq_blk, wbv_apply]

/-- The codes' array after the run. -/
theorem final4 (c : Dev nD) : (dats m 0 c).arrAt 4 cfg0.N = codesOf (X2 m c) := by
  refine (dats m 0 c).arrAt_eq_of_covers 4 _ (by decide +kernel) fun t hf y => ?_
  blk_simp
  rw [after0_4]
  obtain ⟨i, k, rfl⟩ : ∃ i k, y = (ix2 i k : S512x2816.Idx) := ⟨_, _, eq_ix2 y⟩
  refine (codes_blk m c t i k).trans (congrArg (codesOf (X2 m c)) (emb4 t i k).symm)

/-- The scales' array after the run. -/
theorem final5 (c : Dev nD) : (dats m 0 c).arrAt 5 cfg0.N = scalesOf (X2 m c) := by
  refine (dats m 0 c).arrAt_eq_of_covers 5 _ (by decide +kernel) fun t hf y => ?_
  blk_simp
  rw [after0_5]
  obtain ⟨i, k, rfl⟩ : ∃ i k, y = (ix2 i k : S512x22.Idx) := ⟨_, _, eq_ix2 y⟩
  refine (scales_blk m c t i k).trans (congrArg (scalesOf (X2 m c)) (emb5 t i k).symm)

/-- The products' array after the run. -/
theorem final3 (c : Dev nD) : (dats m 0 c).arrAt 3 cfg0.N = outOf (X2 m c) (W2 m c) (S2 m c) := by
  refine (dats m 0 c).arrAt_eq_of_covers 3 _ (by decide +kernel) fun t hf y => ?_
  blk_simp
  rw [after0_3]
  obtain ⟨i, h, o, rfl⟩ : ∃ i h o, y = (ix3 i h o : S512x16x256.Idx) := ⟨_, _, _, eq_ix3 y⟩
  refine (out_blk m c t i h o).trans (congrArg (outOf (X2 m c) (W2 m c) (S2 m c)) (emb3 t i h o).symm)

/-- The activations the region finds are the argument's, reshaped to rows. -/
theorem X2_eq (c : Dev nD) : X2 m c = shapeCast S12288x2816 (m ((c.tc : Thread nD τ).loc main_arg0)) shapeCasts_S3x4096x2816_S12288x2816 := by
  show V m c main_v0 = _
  entry_read
  rfl

/-- The weight scales the region finds are the argument's, reshaped to rows. -/
theorem S2_eq (c : Dev nD) : S2 m c = shapeCast S32x22 (m ((c.tc : Thread nD τ).loc main_arg2)) shapeCasts_S16x2x22_S32x22 := by
  show V m c main_v1 = _
  entry_read
  rfl

/-- What the trailing host operations leave of contents `U`: the three results are reshapes of the region's arrays. -/
theorem tail_eq (U : Valuation τ sig (Elt Ideal)) :
    StableHlo.after (hostOps1 (F := Ideal)) U (Proc.devRef .tc main_v3) = shapeCast S3x4096x16x256 (U (Proc.devRef .tc main_v2_0)) shapeCasts_S12288x16x256_S3x4096x16x256
    ∧ StableHlo.after (hostOps1 (F := Ideal)) U (Proc.devRef .tc main_v4) = shapeCast S3x4096x2816 (U (Proc.devRef .tc main_v2_1)) shapeCasts_S12288x2816_S3x4096x2816
    ∧ StableHlo.after (hostOps1 (F := Ideal)) U (Proc.devRef .tc main_v5) = shapeCast S3x4096x22 (U (Proc.devRef .tc main_v2_2)) shapeCasts_S12288x22_S3x4096x22 := by
  refine ⟨?_, ?_, ?_⟩ <;> · entry_read; rfl

/-- The products as the launch leaves them. -/
theorem tail3 (c : Dev nD) : Pipeline.afterTail₀ cfgs (dats m) 0 (V0 m) [hostOps1] c main_v3
    = shapeCast S3x4096x16x256 (outOf (X2 m c) (W2 m c) (S2 m c)) shapeCasts_S12288x16x256_S3x4096x16x256 := by
  have e := Pipeline.withArrays_arr (τ := τ) spec0 launch0.win.arr_inj c (V0 m c) (fun w => (dats m 0 c).arrAt w cfg0.N) 3
  rw [final3 m c] at e
  have h := (tail_eq (Pipeline.withArrays spec0 c (V0 m c) (fun w => (dats m 0 c).arrAt w cfg0.N))).1
  exact h.trans (congrArg (fun A => shapeCast S3x4096x16x256 A shapeCasts_S12288x16x256_S3x4096x16x256) e)

/-- The codes as the launch leaves them. -/
theorem tail4 (c : Dev nD) : Pipeline.afterTail₀ cfgs (dats m) 0 (V0 m) [hostOps1] c main_v4
    = shapeCast S3x4096x2816 (codesOf (X2 m c)) shapeCasts_S12288x2816_S3x4096x2816 := by
  have e := Pipeline.withArrays_arr (τ := τ) spec0 launch0.win.arr_inj c (V0 m c) (fun w => (dats m 0 c).arrAt w cfg0.N) 4
  rw [final4 m c] at e
  have h := (tail_eq (Pipeline.withArrays spec0 c (V0 m c) (fun w => (dats m 0 c).arrAt w cfg0.N))).2.1
  exact h.trans (congrArg (fun A => shapeCast S3x4096x2816 A shapeCasts_S12288x2816_S3x4096x2816) e)

/-- The scales as the launch leaves them. -/
theorem tail5 (c : Dev nD) : Pipeline.afterTail₀ cfgs (dats m) 0 (V0 m) [hostOps1] c main_v5
    = shapeCast S3x4096x22 (scalesOf (X2 m c)) shapeCasts_S12288x22_S3x4096x22 := by
  have e := Pipeline.withArrays_arr (τ := τ) spec0 launch0.win.arr_inj c (V0 m c) (fun w => (dats m 0 c).arrAt w cfg0.N) 5
  rw [final5 m c] at e
  have h := (tail_eq (Pipeline.withArrays spec0 c (V0 m c) (fun w => (dats m 0 c).arrAt w cfg0.N))).2.2
  exact h.trans (congrArg (fun A => shapeCast S3x4096x22 A shapeCasts_S12288x22_S3x4096x22) e)

/-- The launch terminates with its three results the reshapes of the products, the codes and the scales of all rows, its
    arguments unchanged. -/
theorem run_value : θ_run defs (onTc (τ := τ) (main (F := Ideal))) ⟨m, fun _ => 0, ρ⟩ (fun r => ∀ c : Dev nD,
      r.2.mem ((c.tc : Thread nD τ).loc main_v3) = shapeCast S3x4096x16x256 (outOf (X2 m c) (W2 m c) (S2 m c)) shapeCasts_S12288x16x256_S3x4096x16x256
      ∧ r.2.mem ((c.tc : Thread nD τ).loc main_v4) = shapeCast S3x4096x2816 (codesOf (X2 m c)) shapeCasts_S12288x2816_S3x4096x2816
      ∧ r.2.mem ((c.tc : Thread nD τ).loc main_v5) = shapeCast S3x4096x22 (scalesOf (X2 m c)) shapeCasts_S12288x22_S3x4096x22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v3 (Pipeline.mem_restRefs_of main_v3 (by decide) (by decide))).trans (tail3 m c),
     ((h.1 c).2 main_v4 (Pipeline.mem_restRefs_of main_v4 (by decide) (by decide))).trans (tail4 m c),
     ((h.1 c).2 main_v5 (Pipeline.mem_restRefs_of main_v5 (by decide) (by decide))).trans (tail5 m c),
     ((h.1 c).2 main_arg0 (Pipeline.mem_restRefs_of main_arg0 (by decide) (by decide))).trans (W_main_arg0 m (dats m) c),
     ((h.1 c).1 1).trans (((dats m 0 c).arrAt_in 1 rfl _).trans ((A_eq m c 1).trans (V_main_arg1 m c))),
     ((h.1 c).2 main_arg2 (Pipeline.mem_restRefs_of main_arg2 (by decide) (by decide))).trans (W_main_arg2 m (dats m) c)⟩)
    (run_main m ρ)

end Cert.Kernel.Body

end
-- ==== Proof.RefValue.lean ====
module

public import proofs.«01_k».proof.Proof.KernelValue
public import proofs.«01_k».proof.Proof.Gen.ReferenceIdeal.Skeleton

@[expose] public section

noncomputable section

namespace Cert.ReferenceIdeal.Body

open Idealize.ShloMosaic Idealize.ShloMosaic.ValueIdx Idealize.SL.Sem Cert.ReferenceIdeal.Gen
open Cert.Kernel.Body (vof clip col)

/-- Group `g` of row `s` of batch `b`. -/
def grp (X : Vec Ideal S3x4096x2816 .bf16) (b : Fin 3) (s : Fin 4096) (g : Fin 22) : Fin 128 → EReal :=
  fun l => X (ix3 b s (col g l))

theorem pay3_apply (X : Vec Ideal S3x4096x2816 .bf16) (b : Fin 3) (s : Fin 4096) (g : Fin 22) (l : Fin 128) :
    k0_pay3 (F := Ideal) X (ix4 b s g l) = grp X b s g l := by
  unfold k0_pay3
  show shapeCast S3x4096x22x128 _ _ (ix4 b s g l) = _
  rw [shapeCast_apply _ _ (ix4 b s g l) (ix3 b s (col g l)) (by
    rw [Shape.rowMajor_val_three, Shape.rowMajor_val_four]
    show (b.val * 4096 + s.val) * 2816 + (g.val * 128 + l.val) = ((b.val * 4096 + s.val) * 22 + g.val) * 128 + l.val; omega)]
  rfl

/-- A group's greatest magnitude over 448. -/
theorem amax_apply (X : Vec Ideal S3x4096x2816 .bf16) (b : Fin 3) (s : Fin 4096) (g : Fin 22) :
    multiReduction .maximumf [3] S3x4096x22 (absf (k0_pay3 (F := Ideal) X)) 0xFF800000#32 reduces_S3x4096x22x128_S3x4096x22
      (.inl rfl) rfl (ix3 b s g) * Ideal.ofBits .f32 0x3B124925#32 = vof (grp X b s g) := by
  refine (congrArg (· * Ideal.ofBits .f32 0x3B124925#32) (Ideal.multiReduction_maximumf_single (absf (k0_pay3 X)) 0xFF800000#32
    reduces_S3x4096x22x128_S3x4096x22 (.inl rfl) rfl (ix3 b s g))).trans ?_
  unfold vof
  refine congrArg (· * Ideal.ofBits .f32 0x3B124925#32) (Finset.fold_congr fun l _ => ?_)
  have h : reduces_S3x4096x22x128_S3x4096x22.lift (ix3 b s g) l = ix4 b s g l := by
    rw [eq_ix4 (reduces_S3x4096x22x128_S3x4096x22.lift (ix3 b s g) l)]; rfl
  show max (k0_pay3 X _) (-(k0_pay3 X _)) = _
  rw [h]
  exact congrArg (fun a : EReal => max a (-a)) (pay3_apply X b s g l)

/-- The exponent's formula, entry by entry. -/
theorem expo_at {s : Shape} (v : FVec Ideal s .f32) (j : s.Idx) :
    select (andi (cmpf .oge v (broadcast s (Scalar.ofBits (F := Ideal) .f32 0x00800000#32)))
        (cmpf .olt v (broadcast s (Scalar.ofBits (F := Ideal) .f32 0x7F800000#32))))
      (addf (floor (divf (log v) (log (broadcast s (Scalar.ofBits (F := Ideal) .f32 0x40000000#32)))))
        (broadcast s (Scalar.ofBits (F := Ideal) .f32 0x3F800000#32)))
      (broadcast s (Scalar.ofBits (F := Ideal) .f32 0x00000000#32)) j = Scalar.rexpo (v j) := by
  simp only [select, andi, cmpf, addf, floor, divf, log, broadcast, Scalar.ofBits]
  rfl

/-- A product with a repeated constant, entry by entry. -/
theorem mul_at {s : Shape} (M : FVec Ideal s .f32) (w : BitVec 32) (j : s.Idx) :
    mulf M (broadcast s (Scalar.ofBits (F := Ideal) .f32 w)) j = M j * Ideal.ofBits .f32 w := rfl

/-- The reference's exponent at a place. -/
theorem pay4_apply (X : Vec Ideal S3x4096x2816 .bf16) (b : Fin 3) (s : Fin 4096) (g : Fin 22) :
    k0_pay4 (F := Ideal) X (ix3 b s g) = Scalar.rexpo (vof (grp X b s g)) := by
  have h := expo_at (mulf (multiReduction .maximumf [3] S3x4096x22 (absf (k0_pay3 (F := Ideal) X)) 0xFF800000#32
    reduces_S3x4096x22x128_S3x4096x22 (.inl rfl) rfl) (broadcast S3x4096x22 (Scalar.ofBits (F := Ideal) .f32 0x3B124925#32))) (ix3 b s g)
  rw [mul_at, amax_apply] at h
  rw [← h]
  unfold k0_pay4
  with_reducible rfl

/-- A power of two, entry by entry. -/
theorem exp2_at {s : Shape} (E : FVec Ideal s .f32) (j : s.Idx) : exp2 E j = Ideal.exp2 (E j) := rfl

/-- The reference's scale at a place. -/
theorem pay5_apply (X : Vec Ideal S3x4096x2816 .bf16) (b : Fin 3) (s : Fin 4096) (g : Fin 22) :
    k0_pay5 (F := Ideal) X (ix3 b s g) = Ideal.exp2 (Scalar.rexpo (vof (grp X b s g))) := by
  rw [← pay4_apply]
  unfold k0_pay5
  exact exp2_at _ _

/-- A row of groups' values repeated over each group's entries. -/
theorem spread_apply {φ : FTy} (f : FVec Ideal S3x4096x22 φ) (b : Fin 3) (s : Fin 4096) (g : Fin 22) (l : Fin 128) :
    broadcastTo S3x4096x22x128 (shapeCast S3x4096x22x1 f shapeCasts_S3x4096x22_S3x4096x22x1)
      broadcasts_S3x4096x22x1_S3x4096x22x128 (ix4 b s g l) = f (ix3 b s g) := by
  have h : broadcastTo S3x4096x22x128 (shapeCast S3x4096x22x1 f shapeCasts_S3x4096x22_S3x4096x22x1)
      broadcasts_S3x4096x22x1_S3x4096x22x128 (ix4 b s g l)
      = shapeCast S3x4096x22x1 f shapeCasts_S3x4096x22_S3x4096x22x1 (ix4 b s g 0) := by
    unfold broadcastTo
    congr 1
    funext a
    match a with | ⟨0, _⟩ => rfl | ⟨1, _⟩ => rfl | ⟨2, _⟩ => rfl | ⟨3, _⟩ => rfl
  rw [h]
  exact shapeCast_apply _ _ (ix4 b s g 0) (ix3 b s g) (by
    rw [Shape.rowMajor_val_three, Shape.rowMajor_val_four]
    show (b.val * 4096 + s.val) * 22 + g.val = ((b.val * 4096 + s.val) * 22 + g.val) * 1 + 0; omega)

/-- A code, entry by entry. -/
theorem code_at {s : Shape} (Y B : FVec Ideal s .f32) (j : s.Idx) :
    truncf (F := Ideal) .fp8e4m3 (minimumf (broadcast s (Scalar.ofBits (F := Ideal) .f32 0x43E00000#32))
      (maximumf (broadcast s (Scalar.ofBits (F := Ideal) .f32 0xC3E00000#32)) (mulf Y B))) bitsLt_fp8e4m3_f32 j = clip (Y j * B j) := rfl

/-- The inverse of a scale, entry by entry. -/
theorem inv_at {s : Shape} (E : FVec Ideal s .f32) (j : s.Idx) :
    exp2 (subf (broadcast s (Scalar.ofBits (F := Ideal) .f32 0x00000000#32)) E) j
      = Ideal.exp2 (Ideal.ofBits .f32 0x00000000#32 - E j) := rfl

/-- A dequantised entry, entry by entry. -/
theorem deq_at {s : Shape} (C : FVec Ideal s .fp8e4m3) (B : FVec Ideal s .bf16) (j : s.Idx) :
    mulf (extf (F := Ideal) .bf16 C bitsLt_fp8e4m3_bf16) B j = C j * B j := rfl

/-- A rounded array, entry by entry. -/
theorem trunc_at {s : Shape} (E : FVec Ideal s .f32) (j : s.Idx) : truncf (F := Ideal) .bf16 E bitsLt_bf16_f32 j = E j := rfl

/-- The reference's code at a place, by group. -/
theorem pay6_apply (X : Vec Ideal S3x4096x2816 .bf16) (b : Fin 3) (s : Fin 4096) (g : Fin 22) (l : Fin 128) :
    k0_pay6 (F := Ideal) X (ix4 b s g l)
      = clip (grp X b s g l * Ideal.exp2 (Ideal.ofBits .f32 0x00000000#32 - Scalar.rexpo (vof (grp X b s g)))) := by
  rw [← pay4_apply, ← pay3_apply]
  have h := code_at (k0_pay3 (F := Ideal) X) (broadcastTo S3x4096x22x128 (shapeCast S3x4096x22x1
    (exp2 (subf (broadcast S3x4096x22 (Scalar.ofBits (F := Ideal) .f32 0x00000000#32)) (k0_pay4 (F := Ideal) X)))
    shapeCasts_S3x4096x22_S3x4096x22x1) broadcasts_S3x4096x22x1_S3x4096x22x128) (ix4 b s g l)
  rw [spread_apply, inv_at] at h
  rw [← h]
  unfold k0_pay6
  with_reducible rfl

/-- The reference's code at a place. -/
theorem codes_apply (X : Vec Ideal S3x4096x2816 .bf16) (b : Fin 3) (s : Fin 4096) (g : Fin 22) (l : Fin 128) :
    k0_pay2 (F := Ideal) (k0_pay6 X) (ix3 b s (col g l))
      = clip (grp X b s g l * Ideal.exp2 (Ideal.ofBits .f32 0x00000000#32 - Scalar.rexpo (vof (grp X b s g)))) := by
  rw [← pay6_apply]
  generalize k0_pay6 (F := Ideal) X = C
  unfold k0_pay2
  exact shapeCast_apply _ _ (ix3 b s (col g l)) (ix4 b s g l) (by
    rw [Shape.rowMajor_val_three, Shape.rowMajor_val_four]
    show ((b.val * 4096 + s.val) * 22 + g.val) * 128 + l.val = (b.val * 4096 + s.val) * 2816 + (g.val * 128 + l.val); omega)

/-- Row `s` of batch `b` among the rows of all batches. -/
abbrev row (b : Fin 3) (s : Fin 4096) : Fin 12288 := ⟨b.val * 4096 + s.val, by omega⟩

/-- The reference's dequantised activation at a place. -/
theorem pay7_apply (X : Vec Ideal S3x4096x2816 .bf16) (b : Fin 3) (s : Fin 4096) (g : Fin 22) (l : Fin 128) :
    k0_pay7 (F := Ideal) X (ix2 (row b s) (col g l))
      = clip (grp X b s g l * Ideal.exp2 (Ideal.ofBits .f32 0x00000000#32 - Scalar.rexpo (vof (grp X b s g))))
        * Ideal.exp2 (Scalar.rexpo (vof (grp X b s g))) := by
  rw [← pay6_apply, ← pay5_apply]
  have h := deq_at (k0_pay6 (F := Ideal) X) (broadcastTo S3x4096x22x128 (shapeCast S3x4096x22x1
    (truncf (F := Ideal) .bf16 (k0_pay5 (F := Ideal) X) bitsLt_bf16_f32) shapeCasts_S3x4096x22_S3x4096x22x1)
    broadcasts_S3x4096x22x1_S3x4096x22x128) (ix4 b s g l)
  rw [spread_apply, trunc_at] at h
  rw [← h]
  unfold k0_pay7
  generalize k0_pay6 (F := Ideal) X = C
  generalize k0_pay5 (F := Ideal) X = E
  exact shapeCast_apply _ _ (ix2 (row b s) (col g l)) (ix4 b s g l) (by
    rw [Shape.rowMajor_val_two, Shape.rowMajor_val_four]
    show ((b.val * 4096 + s.val) * 22 + g.val) * 128 + l.val = (b.val * 4096 + s.val) * 2816 + (g.val * 128 + l.val); omega)

/-- Output feature `o` of head `h` among the features of all heads. -/
abbrev feat (h : Fin 16) (o : Fin 256) : Fin 4096 := ⟨h.val * 256 + o.val, by omega⟩

/-- The reference's dequantised weights, flattened to two axes. -/
def weights (W : Vec Ideal S16x256x2816 .fp8e4m3) (S : Vec Ideal S16x2x22 .f32) : FVec Ideal S4096x2816 .bf16 :=
  shapeCast S4096x2816 (mulf (shapeCast S16x2x128x22x128 (extf .bf16 W bitsLt_fp8e4m3_bf16) shapeCasts_S16x256x2816_S16x2x128x22x128)
    (broadcastTo S16x2x128x22x128 (shapeCast S16x2x1x22x1 (truncf .bf16 S bitsLt_bf16_f32) shapeCasts_S16x2x22_S16x2x1x22x1)
      broadcasts_S16x2x1x22x1_S16x2x128x22x128)) shapeCasts_S16x2x128x22x128_S4096x2816

/-- The reference's dequantised weight at a place. -/
theorem weights_apply (W : Vec Ideal S16x256x2816 .fp8e4m3) (S : Vec Ideal S16x2x22 .f32) (h : Fin 16) (o : Fin 256) (k : Fin 2816) :
    weights W S (ix2 (feat h o) k)
      = W (ix3 h o k) * S (ix3 h ⟨o.val / 128, by omega⟩ ⟨k.val / 128, by omega⟩) := by
  have ho := o.isLt
  have hk := k.isLt
  let q : Fin 2 := ⟨o.val / 128, by omega⟩
  let r : Fin 128 := ⟨o.val % 128, by omega⟩
  let g : Fin 22 := ⟨k.val / 128, by omega⟩
  let l : Fin 128 := ⟨k.val % 128, by omega⟩
  unfold weights
  rw [shapeCast_apply _ _ (ix2 (feat h o) k) (ix5 h q r g l) (by
    rw [Shape.rowMajor_val_two, Shape.rowMajor_val_five]
    show (((h.val * 2 + o.val / 128) * 128 + o.val % 128) * 22 + k.val / 128) * 128 + k.val % 128 = (h.val * 256 + o.val) * 2816 + k.val
    omega)]
  have e1 : shapeCast S16x2x128x22x128 (extf (F := Ideal) .bf16 W bitsLt_fp8e4m3_bf16) shapeCasts_S16x256x2816_S16x2x128x22x128 (ix5 h q r g l)
      = W (ix3 h o k) := by
    rw [shapeCast_apply _ _ (ix5 h q r g l) (ix3 h o k) (by
      rw [Shape.rowMajor_val_three, Shape.rowMajor_val_five]
      show (h.val * 256 + o.val) * 2816 + k.val = (((h.val * 2 + o.val / 128) * 128 + o.val % 128) * 22 + k.val / 128) * 128 + k.val % 128
      omega)]
    rfl
  have e2 : broadcastTo S16x2x128x22x128 (shapeCast S16x2x1x22x1 (truncf (F := Ideal) .bf16 S bitsLt_bf16_f32) shapeCasts_S16x2x22_S16x2x1x22x1)
      broadcasts_S16x2x1x22x1_S16x2x128x22x128 (ix5 h q r g l) = S (ix3 h q g) := by
    have hb : broadcastTo S16x2x128x22x128 (shapeCast S16x2x1x22x1 (truncf (F := Ideal) .bf16 S bitsLt_bf16_f32) shapeCasts_S16x2x22_S16x2x1x22x1)
        broadcasts_S16x2x1x22x1_S16x2x128x22x128 (ix5 h q r g l)
        = shapeCast S16x2x1x22x1 (truncf (F := Ideal) .bf16 S bitsLt_bf16_f32) shapeCasts_S16x2x22_S16x2x1x22x1 (ix5 h q 0 g 0) := by
      unfold broadcastTo
      congr 1
      funext a
      match a with | ⟨0, _⟩ => rfl | ⟨1, _⟩ => rfl | ⟨2, _⟩ => rfl | ⟨3, _⟩ => rfl | ⟨4, _⟩ => rfl
    rw [hb, shapeCast_apply _ _ (ix5 h q 0 g 0) (ix3 h q g) (by
      rw [Shape.rowMajor_val_three, Shape.rowMajor_val_five]
      show (h.val * 2 + o.val / 128) * 22 + k.val / 128 = (((h.val * 2 + o.val / 128) * 1 + 0) * 22 + k.val / 128) * 1 + 0
      omega)]
    rfl
  exact congrArg₂ (fun a b : EReal => a * b) e1 e2

/-- The reference's product at a place. -/
theorem pay1_apply (W : Vec Ideal S16x256x2816 .fp8e4m3) (S : Vec Ideal S16x2x22 .f32) (XW : FVec Ideal S12288x2816 .bf16)
    (b : Fin 3) (s : Fin 4096) (h : Fin 16) (o : Fin 256) :
    k0_pay1 (F := Ideal) W S XW (ix4 b s h o) = ∑ k : Fin 2816, XW (ix2 (row b s) k) * weights W S (ix2 (feat h o) k) := by
  unfold k0_pay1
  show shapeCast S3x4096x16x256 (matmul dot_S12288x2816_S4096x2816_S12288x4096_1_1_0_0_n_n none XW (weights W S)
    (constant S12288x4096 .f32 0x00000000#32)) _ (ix4 b s h o) = _
  rw [shapeCast_apply _ _ (ix4 b s h o) (ix2 (row b s) (feat h o)) (by
    rw [Shape.rowMajor_val_two, Shape.rowMajor_val_four]
    show (b.val * 4096 + s.val) * 4096 + (h.val * 256 + o.val) = ((b.val * 4096 + s.val) * 16 + h.val) * 256 + o.val; omega)]
  refine (Ideal.matmul_constant_zero_apply _ none _ _ _).trans ?_
  refine (Equiv.sum_comp (contrEquiv1 dot_S12288x2816_S4096x2816_S12288x4096_1_1_0_0_n_n 2816 rfl rfl).symm _).symm.trans ?_
  refine Finset.sum_congr rfl fun k _ => ?_
  have e1 : dot_S12288x2816_S4096x2816_S12288x4096_1_1_0_0_n_n.lhsIdx (ix2 (row b s) (feat h o))
      ((contrEquiv1 dot_S12288x2816_S4096x2816_S12288x4096_1_1_0_0_n_n 2816 rfl rfl).symm k) = ix2 (row b s) k := by
    funext a; apply Fin.ext; match a with | ⟨0, _⟩ => rfl | ⟨1, _⟩ => rfl
  have e2 : dot_S12288x2816_S4096x2816_S12288x4096_1_1_0_0_n_n.rhsIdx (ix2 (row b s) (feat h o))
      ((contrEquiv1 dot_S12288x2816_S4096x2816_S12288x4096_1_1_0_0_n_n 2816 rfl rfl).symm k) = ix2 (feat h o) k := by
    funext a; apply Fin.ext; match a with | ⟨0, _⟩ => rfl | ⟨1, _⟩ => rfl
  rw [e1, e2]

end Cert.ReferenceIdeal.Body

end
-- ==== Proof.Range.lean ====
module

public import proofs.«01_k».proof.Pre_in_range
public import proofs.«01_k».proof.Proof.KernelValue

@[expose] public section

noncomputable section

namespace Cert.Range

open Idealize.ShloMosaic Cert.Scalar Cert.Kernel.Body

/-- A finite positive word's value. -/
theorem ieee_real (b : BitVec 32) (k f : ℕ) (hs : (b.extractLsb' 31 1 == 1#1) = false) (he : (b.extractLsb' 23 8).toNat = k)
    (hf : (b.extractLsb' 0 23).toNat = f) (h0 : 0 < k) (h : k < 255) :
    Ideal.ieee 8 23 b = (((2 ^ 23 + f : ℕ) * (2 : ℝ) ^ ((k : ℤ) - 150) : ℝ) : EReal) := by
  unfold Ideal.ieee
  have hs' : (b.extractLsb' (8 + 23) 1 == 1#1) = false := hs
  simp only [hs', he, hf]
  rw [if_neg (by norm_num; omega), if_neg (by omega), EReal.coe_eq_coe_iff]
  have e : ((k : ℤ) - (2 ^ (8 - 1) - 1) - (23 : ℕ)) = (k : ℤ) - 150 := by norm_num; ring
  rw [e]
  norm_num

/-- The factor of a scale is positive and at most `2⁻⁸`. -/
theorem factor : ∃ r : ℝ, Ideal.ofBits .f32 0x3B124925#32 = (r : EReal) ∧ 0 < r ∧ r ≤ (2 : ℝ) ^ (-8 : ℤ) := by
  refine ⟨_, ieee_real 0x3B124925#32 118 0x124925 (by decide) (by decide) (by decide) (by omega) (by omega), by positivity, ?_⟩
  rw [show ((118 : ℕ) : ℤ) - 150 = -24 + -8 by norm_num, zpow_add₀ two_ne_zero, ← mul_assoc]
  refine mul_le_of_le_one_left (by positivity) ?_
  norm_num

/-- The greatest bf16 is below `2¹²⁸`. -/
theorem greatest : ∃ r : ℝ, Ideal.ofBits .f32 0x7F7F0000#32 = (r : EReal) ∧ 0 < r ∧ r < (2 : ℝ) ^ (128 : ℤ) := by
  refine ⟨_, ieee_real 0x7F7F0000#32 254 0x7F0000 (by decide) (by decide) (by decide) (by omega) (by omega), by positivity, ?_⟩
  rw [show ((254 : ℕ) : ℤ) - 150 = 104 by norm_num, show (128 : ℤ) = 24 + 104 by norm_num, zpow_add₀ two_ne_zero]
  refine mul_lt_mul_of_pos_right ?_ (by positivity)
  norm_num

/-- Where a group's entries are infinite or at most the greatest bf16 in size, its greatest magnitude over 448 is infinite or below `2¹²⁶`. -/
theorem vof_range (f : Fin 128 → EReal)
    (h : ∀ l, max (f l) (-f l) ≤ Ideal.ofBits .f32 0x7F7F0000#32 ∨ max (f l) (-f l) = ⊤) :
    0 ≤ vof f ∧ (vof f < val 253 ∨ vof f = ⊤) := by
  obtain ⟨c, hc, hc0, hc1⟩ := factor
  obtain ⟨M, hM, hM0, hM1⟩ := greatest
  have hb : Ideal.ofBits .f32 0xFF800000#32 ≤ (M : EReal) := by
    have : Ideal.ofBits .f32 0xFF800000#32 = ⊥ := by
      show Ideal.ieee 8 23 0xFF800000#32 = ⊥
      unfold Ideal.ieee
      rw [if_pos (by decide), if_pos (by decide), if_pos (by decide)]
    rw [this]; exact bot_le
  unfold vof
  rw [hc]
  rw [hM] at h
  generalize hF : (Finset.univ.fold max (Ideal.ofBits .f32 0xFF800000#32) fun l => max (f l) (-f l)) = A
  have h0 : 0 ≤ A := by
    rw [← hF, Finset.le_fold_max]
    refine .inr ⟨0, Finset.mem_univ _, ?_⟩
    rcases le_total 0 (f 0) with h | h
    · exact h.trans (le_max_left _ _)
    · exact (EReal.neg_nonneg.mpr h).trans (le_max_right _ _)
  have hc0' : (0 : EReal) < (c : EReal) := by exact_mod_cast hc0
  refine ⟨mul_nonneg h0 hc0'.le, ?_⟩
  by_cases ht : ∃ l, max (f l) (-f l) = ⊤
  · obtain ⟨l, hl⟩ := ht
    have hA : A = ⊤ := by
      rw [eq_top_iff, ← hF, Finset.le_fold_max]
      exact .inr ⟨l, Finset.mem_univ _, hl.ge⟩
    right
    rw [hA, EReal.top_mul_coe_of_pos hc0]
  · left
    have hA : A ≤ (M : EReal) := by
      rw [← hF, Finset.fold_max_le]
      exact ⟨hb, fun l _ => (h l).resolve_right fun e => ht ⟨l, e⟩⟩
    refine lt_of_le_of_lt (mul_le_mul_of_nonneg_right hA hc0'.le) ?_
    rw [← EReal.coe_mul, val_mid 253 (by omega) (by omega), EReal.coe_lt_coe_iff]
    have h1 : M * c < (2 : ℝ) ^ (128 : ℤ) * (2 : ℝ) ^ (-8 : ℤ) :=
      lt_of_le_of_lt (mul_le_mul_of_nonneg_left hc1 hM0.le) (mul_lt_mul_of_pos_right hM1 (by positivity))
    refine h1.trans_le ?_
    rw [← zpow_add₀ two_ne_zero]
    exact zpow_le_zpow_right₀ one_le_two (by norm_num)

/-- The precondition's shape relations hold. -/
instance facts : Cert.Pre_in_range.Facts := ⟨by decide, by decide⟩

/-- The precondition, read at an entry. -/
theorem entry (a0 : FVec Ideal Cert.Pre_in_range.S3x4096x2816 .bf16) (a1 : FVec Ideal Cert.Pre_in_range.S16x256x2816 .fp8e4m3)
    (a2 : FVec Ideal Cert.Pre_in_range.S16x2x22 .f32)
    (h : Cert.Pre_in_range.fn (F := Ideal) a0 a1 a2 = fun _ => 1#1) (j : Cert.Pre_in_range.S3x4096x2816.Idx) :
    max (a0 j) (-a0 j) ≤ Ideal.ofBits .f32 0x7F7F0000#32 ∨ max (a0 j) (-a0 j) = ⊤ := by
  have e : Ideal.cmp .ole (max (a0 j) (-a0 j)) (Ideal.ofBits .f32 0x7F7F0000#32)
      ||| Ideal.cmp .oeq (max (a0 j) (-a0 j)) (Ideal.ofBits .f32 0x7F800000#32) = 1#1 := congrFun h j
  rw [ofBits_inf] at e
  by_contra hn
  rw [not_or] at hn
  have e1 : Ideal.cmp .ole (max (a0 j) (-a0 j)) (Ideal.ofBits .f32 0x7F7F0000#32) = 0#1 := by
    unfold Ideal.cmp; simp [hn.1]
  have e2 : Ideal.cmp .oeq (max (a0 j) (-a0 j)) ⊤ = 0#1 := by
    unfold Ideal.cmp; simp [hn.2]
  rw [e1, e2] at e
  exact absurd e (by decide)

end Cert.Range

end
-- ==== Proof.Equal.lean ====
module

public import proofs.«01_k».proof.Proof.RunValue
public import proofs.«01_k».proof.Proof.RefValue
public import proofs.«01_k».proof.Proof.Range

@[expose] public section

noncomputable section

namespace Cert.Equal

open Idealize.ShloMosaic hiding ix2 ix3 ix4 eq_ix2 eq_ix3 eq_ix4
open Idealize.ShloMosaic.ValueIdx Cert.Kernel Cert.Kernel.Gen Cert.Kernel.Body
open Cert.ReferenceIdeal.Body (row feat weights)

/-- Every activation is infinite or at most the greatest bf16 in size. -/
def InRange (A : Vec Ideal S3x4096x2816 .bf16) : Prop :=
  ∀ j, max (A j) (-A j) ≤ Ideal.ofBits .f32 0x7F7F0000#32 ∨ max (A j) (-A j) = ⊤

/-- The activations as rows. -/
abbrev rows (A : Vec Ideal S3x4096x2816 .bf16) : Vec Ideal S12288x2816 .bf16 := shapeCast S12288x2816 A shapeCasts_S3x4096x2816_S12288x2816

/-- The weight scales as rows. -/
abbrev wrows (S : Vec Ideal S16x2x22 .f32) : Vec Ideal S32x22 .f32 := shapeCast S32x22 S shapeCasts_S16x2x22_S32x22

/-- A group of a row is the group of the batch's row. -/
theorem rgrp_eq (A : Vec Ideal S3x4096x2816 .bf16) (b : Fin 3) (s : Fin 4096) (g : Fin 22) :
    rgrp (rows A) (row b s) g = Cert.ReferenceIdeal.Body.grp A b s g := by
  funext l
  unfold rgrp Cert.ReferenceIdeal.Body.grp
  exact shapeCast_apply _ _ (ix2 (row b s) (col g l)) (ix3 b s (col g l)) (by
    rw [Shape.rowMajor_val_two, Shape.rowMajor_val_three]; rfl)

/-- On the range, the kernel's scales of a group are the reference's. -/
theorem group_scales (A : Vec Ideal S3x4096x2816 .bf16) (hA : InRange A) (b : Fin 3) (s : Fin 4096) (g : Fin 22) :
    Scalar.sscale (vof (Cert.ReferenceIdeal.Body.grp A b s g)) = Ideal.exp2 (Scalar.rexpo (vof (Cert.ReferenceIdeal.Body.grp A b s g)))
    ∧ Scalar.sinv (vof (Cert.ReferenceIdeal.Body.grp A b s g))
      = Ideal.exp2 (Ideal.ofBits .f32 0x00000000#32 - Scalar.rexpo (vof (Cert.ReferenceIdeal.Body.grp A b s g))) := by
  have h := Range.vof_range (Cert.ReferenceIdeal.Body.grp A b s g) fun l => hA _
  exact Scalar.scales_eq _ h.1 h.2

/-- The kernel's codes are the reference's. -/
theorem codes_equal (A : Vec Ideal S3x4096x2816 .bf16) (hA : InRange A) :
    shapeCast S3x4096x2816 (codesOf (rows A)) shapeCasts_S12288x2816_S3x4096x2816
      = Cert.ReferenceIdeal.Gen.k0_pay2 (F := Ideal) (Cert.ReferenceIdeal.Gen.k0_pay6 A) := by
  funext j
  obtain ⟨b, s, k, rfl⟩ : ∃ b s k, j = (ix3 b s k : S3x4096x2816.Idx) := ⟨_, _, _, eq_ix3 j⟩
  rw [shapeCast_apply _ _ (ix3 b s k) (ix2 (row b s) k) (by
    rw [Shape.rowMajor_val_two, Shape.rowMajor_val_three]; rfl)]
  have h := Cert.ReferenceIdeal.Body.codes_apply A b s (gof k) (lof k)
  rw [col_of] at h
  rw [h, ← (group_scales A hA b s (gof k)).2, ← rgrp_eq]
  rfl

/-- The kernel's scales are the reference's. -/
theorem scales_equal (A : Vec Ideal S3x4096x2816 .bf16) (hA : InRange A) :
    shapeCast S3x4096x22 (scalesOf (rows A)) shapeCasts_S12288x22_S3x4096x22 = Cert.ReferenceIdeal.Gen.k0_pay5 (F := Ideal) A := by
  funext j
  obtain ⟨b, s, g, rfl⟩ : ∃ b s g, j = (ix3 b s g : S3x4096x22.Idx) := ⟨_, _, _, eq_ix3 j⟩
  rw [shapeCast_apply _ _ (ix3 b s g) (ix2 (row b s) g) (by
    rw [Shape.rowMajor_val_two, Shape.rowMajor_val_three]; rfl)]
  rw [Cert.ReferenceIdeal.Body.pay5_apply, ← (group_scales A hA b s g).1, ← rgrp_eq]
  rfl

/-- A dequantised activation of the kernel is the reference's. -/
theorem deq_equal (A : Vec Ideal S3x4096x2816 .bf16) (hA : InRange A) (b : Fin 3) (s : Fin 4096) (k : Fin 2816) :
    deq (rows A) (row b s) k = Cert.ReferenceIdeal.Gen.k0_pay7 (F := Ideal) A (ix2 (row b s) k) := by
  have h := Cert.ReferenceIdeal.Body.pay7_apply A b s (gof k) (lof k)
  rw [col_of] at h
  rw [h, ← (group_scales A hA b s (gof k)).2, ← (group_scales A hA b s (gof k)).1, ← rgrp_eq]
  rfl

/-- A dequantised weight of the kernel is the reference's. -/
theorem wdeq_equal (W : Vec Ideal S16x256x2816 .fp8e4m3) (S : Vec Ideal S16x2x22 .f32) (h : Fin 16) (o : Fin 256) (k : Fin 2816) :
    wdeq W (wrows S) h o k = weights W S (ix2 (feat h o) k) := by
  rw [Cert.ReferenceIdeal.Body.weights_apply]
  unfold wdeq
  congr 1
  exact shapeCast_apply _ _ _ _ (by rw [Shape.rowMajor_val_two, Shape.rowMajor_val_three]; rfl)

/-- The kernel's products are the reference's. -/
theorem out_equal (A : Vec Ideal S3x4096x2816 .bf16) (hA : InRange A) (W : Vec Ideal S16x256x2816 .fp8e4m3) (S : Vec Ideal S16x2x22 .f32) :
    shapeCast S3x4096x16x256 (outOf (rows A) W (wrows S)) shapeCasts_S12288x16x256_S3x4096x16x256
      = Cert.ReferenceIdeal.Gen.k0_pay1 (F := Ideal) W S (Cert.ReferenceIdeal.Gen.k0_pay7 A) := by
  funext j
  obtain ⟨b, s, h, o, rfl⟩ : ∃ b s h o, j = (ix4 b s h o : S3x4096x16x256.Idx) := ⟨_, _, _, _, eq_ix4 j⟩
  rw [shapeCast_apply _ _ (ix4 b s h o) (ix3 (row b s) h o) (by
    rw [Shape.rowMajor_val_three, Shape.rowMajor_val_four]; rfl)]
  rw [Cert.ReferenceIdeal.Body.pay1_apply]
  show ∑ k : Fin 2816, deq (rows A) (row b s) k * wdeq W (wrows S) h o k = _
  refine Finset.sum_congr rfl fun k _ => ?_
  rw [deq_equal A hA, wdeq_equal]

end Cert.Equal

end
-- ==== Proof.RefRun.lean ====
module

public import proofs.«01_k».proof.Proof.Gen.ReferenceIdeal.Frame
public import Idealize.ShloMosaic.Lib.Pipeline.Value

@[expose] public section

noncomputable section

namespace Cert.ReferenceIdeal.Body

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x4096x2816.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 4096 + 1 * (j 1).val = (j 1).val; omega
  | ⟨2, _⟩ => show win0_0.index t (2 : Fin 3) * 2816 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S16x256x2816.Idx) : ((cfg0.win 1).blk t).view.emb j = j := by
  obtain ⟨e0, e1, e2⟩ := idx_zero1 t
  funext a; apply Fin.ext
  match a with
  | ⟨0, _⟩ => show win0_1.index t (0 : Fin 3) * 16 + 1 * (j 0).val = (j 0).val; omega
  | ⟨1, _⟩ => show win0_1.index t (1 : Fin 3) * 256 + 1 * (j 1).val = (j 1).val; omega
  | ⟨2, _⟩ => show win0_1.index t (2 : Fin 3) * 2816 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S16x2x22.Idx) : ((cfg0.win 2).blk t).view.emb j = j := by
  obtain ⟨e0, e1, e2⟩ := idx_zero2 t
  funext a; apply Fin.ext
  match a with
  | ⟨0, _⟩ => show win0_2.index t (0 : Fin 3) * 16 + 1 * (j 0).val = (j 0).val; omega
  | ⟨1, _⟩ => show win0_2.index t (1 : Fin 3) * 2 + 1 * (j 1).val = (j 1).val; omega
  | ⟨2, _⟩ => show win0_2.index t (2 : Fin 3) * 22 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S3x4096x16x256.Idx) : ((cfg0.win 3).blk t).view.emb j = j := by
  obtain ⟨e0, e1, e2, e3⟩ := idx_zero3 t
  funext a; apply Fin.ext
  match a with
  | ⟨0, _⟩ => show win0_3.index t (0 : Fin 4) * 3 + 1 * (j 0).val = (j 0).val; omega
  | ⟨1, _⟩ => show win0_3.index t (1 : Fin 4) * 4096 + 1 * (j 1).val = (j 1).val; omega
  | ⟨2, _⟩ => show win0_3.index t (2 : Fin 4) * 16 + 1 * (j 2).val = (j 2).val; omega
  | ⟨3, _⟩ => show win0_3.index t (3 : Fin 4) * 256 + 1 * (j 3).val = (j 3).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S3x4096x2816.Idx) : ((cfg0.win 4).blk t).view.emb j = j := by
  obtain ⟨e0, e1, e2⟩ := idx_zero4 t
  funext a; apply Fin.ext
  match a with
  | ⟨0, _⟩ => show win0_4.index t (0 : Fin 3) * 3 + 1 * (j 0).val = (j 0).val; omega
  | ⟨1, _⟩ => show win0_4.index t (1 : Fin 3) * 4096 + 1 * (j 1).val = (j 1).val; omega
  | ⟨2, _⟩ => show win0_4.index t (2 : Fin 3) * 2816 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x4096x22.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 4096 + 1 * (j 1).val = (j 1).val; omega
  | ⟨2, _⟩ => show win0_5.index t (2 : Fin 3) * 22 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S3x4096x2816 .bf16) (a1 : Vec F S16x256x2816 .fp8e4m3) (a2 : Vec F S16x2x22 .f32) : Vec F S3x4096x16x256 .bf16 :=
  k0_pay1 a1 a2 (k0_pay7 a0)

/-- A load of the whole of a block reads the block, and the one store through the whole rectangle leaves its payload. -/
theorem out3_eq (a0 : Vec F S3x4096x2816 .bf16) (a1 : Vec F S16x256x2816 .fp8e4m3) (a2 : Vec F S16x2x22 .f32) : out0_3 (F := F) a0 a1 a2 = G3 a0 a1 a2 := by
  unfold out0_3
  rw [View.canon_unit_zero hz3, View.ld_unit_zero (S := S16x256x2816) hz1 _ a1, View.ld_unit_zero (S := S16x2x22) hz2 _ a2, View.ld_unit_zero (S := S3x4096x2816) hz0 _ a0]

/-- Cutting the point's block out of `X` and reading `X` through the block's view give the same. -/
theorem cut3_eq (t : Fin cfg0.N) (X : Vec F S3x4096x16x256 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S3x4096x16x256.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S3x4096x2816 .bf16) (a1 : Vec F S16x256x2816 .fp8e4m3) (a2 : Vec F S16x2x22 .f32) : Vec F S3x4096x2816 .fp8e4m3 :=
  k0_pay2 (k0_pay6 a0)

/-- A load of the whole of a block reads the block, and the one store through the whole rectangle leaves its payload. -/
theorem out4_eq (a0 : Vec F S3x4096x2816 .bf16) (a1 : Vec F S16x256x2816 .fp8e4m3) (a2 : Vec F S16x2x22 .f32) : out0_4 (F := F) a0 a1 a2 = G4 a0 a1 a2 := by
  unfold out0_4
  rw [View.canon_unit_zero hz4, View.ld_unit_zero (S := S3x4096x2816) hz0 _ a0]

/-- Cutting the point's block out of `X` and reading `X` through the block's view give the same. -/
theorem cut4_eq (t : Fin cfg0.N) (X : Vec F S3x4096x2816 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S3x4096x2816.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S3x4096x2816 .bf16) (a1 : Vec F S16x256x2816 .fp8e4m3) (a2 : Vec F S16x2x22 .f32) : Vec F S3x4096x22 .f32 :=
  k0_pay5 a0

/-- A load of the whole of a block reads the block, and the one store through the whole rectangle leaves its payload. -/
theorem out5_eq (a0 : Vec F S3x4096x2816 .bf16) (a1 : Vec F S16x256x2816 .fp8e4m3) (a2 : Vec F S16x2x22 .f32) : out0_5 (F := F) a0 a1 a2 = G5 a0 a1 a2 := by
  unfold out0_5
  rw [View.canon_unit_zero hz5, View.ld_unit_zero (S := S3x4096x2816) hz0 _ a0]

/-- Cutting the point's block out of `X` and reading `X` through the block's view give the same. -/
theorem cut5_eq (t : Fin cfg0.N) (X : Vec F S3x4096x22 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S3x4096x22.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.ReferenceIdeal.Body

end
-- ==== Proof.Same.lean ====
module

public import proofs.«01_k».proof.Proof.Gen.KernelIdeal
public import proofs.«01_k».proof.Proof.Body

@[expose] public section

noncomputable section

namespace Cert.KernelIdeal.Same

open Idealize.ShloMosaic Idealize.SL.Sem Cert.KernelIdeal.Gen

variable {F : FTy → Type} [FloatOps F]

set_option maxRecDepth 1000000 in
set_option maxHeartbeats 0 in
/-- The idealized kernel's body is the kernel's. -/
theorem body_eq (i : grid0.Coords) (arg1 : Memref sig .tc .vmem S512x2816 .bf16) (harg1 : arg1.IsWhole) (arg2 : Memref sig .tc .vmem S16x256x2816 .fp8e4m3) (harg2 : arg2.IsWhole) (arg3 : Memref sig .tc .smem S32x22 .f32) (harg3 : arg3.IsWhole) (arg4 : Memref sig .tc .vmem S512x16x256 .bf16) (harg4 : arg4.IsWhole) (arg5 : Memref sig .tc .vmem S512x2816 .fp8e4m3) (harg5 : arg5.IsWhole) (arg6 : Memref sig .tc .vmem S512x22 .f32) (harg6 : arg6.IsWhole) (arg7 : Memref sig .tc .vmem S16x256x2816 .bf16) (harg7 : arg7.IsWhole) (arg8 : Memref sig .tc .vmem S512x2816 .bf16) (harg8 : arg8.IsWhole) :
    cc0_up_projection (F := F) i arg1 harg1 arg2 harg2 arg3 harg3 arg4 harg4 arg5 harg5 arg6 harg6 arg7 harg7 arg8 harg8 = @Cert.Kernel.cc0_up_projection F _ Cert.Kernel.Gen.facts i arg1 harg1 arg2 harg2 arg3 harg3 arg4 harg4 arg5 harg5 arg6 harg6 arg7 harg7 arg8 harg8 := by
  refine Eq.trans ?_ (Cert.Kernel.Body.body_eq i arg1 harg1 arg2 harg2 arg3 harg3 arg4 harg4 arg5 harg5 arg6 harg6 arg7 harg7 arg8 harg8).symm
  unfold cc0_up_projection k0_part283
  unfold k0_part227
  refine Cert.Kernel.Body.dite_bind₂ (c := Cert.Kernel.Body.first i) (fun h => ?_) (fun h => ?_)
  · rw [if_pos h]
    rfl
  · rw [if_neg h]
    rfl

/-- So the two body tables are one. -/
theorem defs₀_eq : defs₀ (F := F) = @Cert.Kernel.defs₀ F _ Cert.Kernel.Gen.facts := by
  unfold defs₀ Cert.Kernel.defs₀
  refine congrArg Defs.onTc ?_
  funext l
  match l with
  | 0 => funext ⟨t, s⟩; exact body_eq _ _ _ _ _ _ _ _ _ _ _ _ _ _ _ _ _

/-- And so are the programs' tables … -/
theorem defs_eq : defs (F := F) = @Cert.Kernel.defs F _ Cert.Kernel.Gen.facts := by
  unfold defs Cert.Kernel.defs
  rw [defs₀_eq]
  rfl

/-- … and the programs. -/
theorem main_eq : main (F := F) = Cert.Kernel.main (F := F) := rfl

end Cert.KernelIdeal.Same

end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Frame
public import proofs.«01_k».proof.Proof.Equal
public import proofs.«01_k».proof.Proof.RefRun
public import proofs.«01_k».proof.Proof.Run
public import proofs.«01_k».proof.Proof.Same

@[expose] public section

noncomputable section

namespace Cert.Proof

open Idealize.ShloMosaic Idealize.SL.Sem

/-- The idealized kernel runs and leaves its arguments as they were. -/
theorem frame_ideal : Cert.quiescent_KernelIdeal (hKernelIdeal := Cert.KernelIdeal.Gen.facts) := fun m g _ => by
  rw [Cert.KernelIdeal.Same.defs_eq, Cert.KernelIdeal.Same.main_eq]
  exact Cert.Kernel.Body.frame (F := Ideal) m g

/-- The same where the activations are in range. -/
theorem frame_ideal_in_range :
    Cert.quiescent_KernelIdeal_pre_in_range (hKernelIdeal := Cert.KernelIdeal.Gen.facts) (hPre_in_range := Range.facts) := fun m g _ => by
  rw [Cert.KernelIdeal.Same.defs_eq, Cert.KernelIdeal.Same.main_eq]
  exact Cert.Kernel.Body.frame (F := Ideal) m g

/-- What the precondition says of the activations. -/
theorem in_range (m : (ℓ : Loc Cert.KernelIdeal.nD Cert.KernelIdeal.τ Cert.KernelIdeal.sig) → Buf (Elt Ideal) ℓ)
    (h : Cert.Pre_KernelIdeal_in_range (hPre_in_range := Range.facts) m) (c : Dev Cert.KernelIdeal.nD) :
    Equal.InRange (m ((c.tc : Thread Cert.KernelIdeal.nD Cert.KernelIdeal.τ).loc Cert.KernelIdeal.main_arg0)) := fun j =>
  Range.entry _ _ _ (h c) j

/-- Where the activations are in range, the idealized kernel and the idealized reference return the same products, codes and
    scales from the same arguments: the kernel's are rewritten to the reference's, and the reference's are read at its own memory. -/
theorem equal : Cert.algebraic_KernelIdeal_ReferenceIdeal_pre_in_range (hKernelIdeal := Cert.KernelIdeal.Gen.facts)
    (hReferenceIdeal := Cert.ReferenceIdeal.Gen.facts) (hPre_in_range := Range.facts) := fun m g m' g' hpre hargs => by
  refine ⟨fun c => Cert.ReferenceIdeal.Body.G3 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.ReferenceIdeal.Body.G4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.ReferenceIdeal.Body.G5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · rw [Cert.KernelIdeal.Same.defs_eq, Cert.KernelIdeal.Same.main_eq]
    refine (θ_run _ _ _).mono (fun r h c => ?_) (Cert.Kernel.Body.run_value m g)
    obtain ⟨h3, h4, h5, ha⟩ := h c
    rw [Cert.Kernel.Body.X2_eq, Cert.Kernel.Body.S2_eq, show Cert.Kernel.Body.W2 m c = _ from Cert.Kernel.Gen.V_main_arg1 m c] at h3
    rw [Cert.Kernel.Body.X2_eq] at h4 h5
    exact ⟨h3.trans (Equal.out_equal _ (in_range m hpre c) _ _), h4.trans (Equal.codes_equal _ (in_range m hpre c)),
      h5.trans (Equal.scales_equal _ (in_range m hpre c)), ha⟩
  · refine (θ_run _ _ _).mono (fun r h c => ?_) (Cert.ReferenceIdeal.Body.run m' g')
    obtain ⟨h3, h4, h5, ha⟩ := h c
    obtain ⟨e0, e1, e2⟩ := hargs c
    refine ⟨h3.trans ?_, h4.trans ?_, h5.trans ?_, ha⟩
    · exact congrArg₂ (fun f a => f a) (congrArg₂ Cert.ReferenceIdeal.Body.G3 e0 e1) e2
    · exact congrArg₂ (fun f a => f a) (congrArg₂ Cert.ReferenceIdeal.Body.G4 e0 e1) e2
    · exact congrArg₂ (fun f a => f a) (congrArg₂ Cert.ReferenceIdeal.Body.G5 e0 e1) e2

/-- All that is claimed. -/
theorem claim : Cert.Claim := ⟨Cert.Kernel.Gen.facts, Cert.KernelIdeal.Gen.facts, Cert.ReferenceIdeal.Gen.facts, Range.facts,
  fun m g _ => Cert.Kernel.Body.frame m g,
  frame_ideal,
  frame_ideal_in_range,
  fun m g _ => Cert.ReferenceIdeal.Gen.frame m g,
  fun m g _ => Cert.ReferenceIdeal.Gen.frame m g,
  trivial,
  equal⟩

end Cert.Proof

end
